-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 1024, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 1024, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  bcast_S_S8x512x8x64 : S_.BroadcastsInDim S8x512x8x64 (![] : Fin 0 → Fin S8x512x8x64.rank)

variable [Facts]

def fn {F : FTy → Type} [FloatOps F] (main_arg0 : FVec F S8x1x8x64 .f32) (main_arg1 : FVec F S8x512x8x64 .f32) (main_arg2 : FVec F S8x512x8x64 .f32) : IVec S8x1x8x64 1 × IVec S8x512x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x512x8x64 .f32 := Host.absf main_arg1
  let main_cst_0 : FVec F S_ .f32 := constant S_ .f32 0x7F800000#32
  let main_v4 : FVec F S8x512x8x64 .f32 := broadcastInDim S8x512x8x64 ![] bcast_S_S8x512x8x64 main_cst_0
  let main_v5 : IVec S8x512x8x64 1 := cmpf .olt main_v3 main_v4
  (main_v2, main_v5)
-- ==== Pre_finite_ReferenceIdeal.lean ====
abbrev S8x1x8x64 : Shape := ⟨4, ![8, 1, 8, 64]⟩
abbrev S8x1024x8x64 : Shape := ⟨4, ![8, 1024, 8, 64]⟩
abbrev S_ : Shape := ⟨0, ![]⟩

class Facts : Prop where
  bcast_S_S8x1x8x64 : S_.BroadcastsInDim S8x1x8x64 (![] : Fin 0 → Fin S8x1x8x64.rank)
  bcast_S_S8x1024x8x64 : S_.BroadcastsInDim S8x1024x8x64 (![] : Fin 0 → Fin S8x1024x8x64.rank)

variable [Facts]

def fn {F : FTy → Type} [FloatOps F] (main_arg0 : FVec F S8x1x8x64 .f32) (main_arg1 : FVec F S8x1024x8x64 .f32) (main_arg2 : FVec F S8x1024x8x64 .f32) : IVec S8x1x8x64 1 × IVec S8x1024x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x1024x8x64 .f32 := Host.absf main_arg1
  let main_cst_0 : FVec F S_ .f32 := constant S_ .f32 0x7F800000#32
  let main_v4 : FVec F S8x1024x8x64 .f32 := broadcastInDim S8x1024x8x64 ![] bcast_S_S8x1024x8x64 main_cst_0
  let main_v5 : IVec S8x1024x8x64 1 := cmpf .olt main_v3 main_v4
  (main_v2, main_v5)
-- ==== Kernel.lean ====
abbrev S8x1x8x64 : Shape := ⟨4, ![8, 1, 8, 64]⟩
abbrev S8x512x8x64 : Shape := ⟨4, ![8, 512, 8, 64]⟩
abbrev S8x64x8x64 : Shape := ⟨4, ![8, 64, 8, 64]⟩
abbrev S8x8x64 : Shape := ⟨3, ![8, 8, 64]⟩
abbrev S8x8 : Shape := ⟨2, ![8, 8]⟩
abbrev S2x8x8x64 : Shape := ⟨4, ![2, 8, 8, 64]⟩
abbrev S_ : Shape := ⟨0, ![]⟩
abbrev S8x64x8 : Shape := ⟨3, ![8, 64, 8]⟩
abbrev S8x64x8x1 : Shape := ⟨4, ![8, 64, 8, 1]⟩
abbrev S1x8x8x64 : Shape := ⟨4, ![1, 8, 8, 64]⟩
abbrev S8x8x1 : Shape := ⟨3, ![8, 8, 1]⟩

abbrev nBuf : Space → Nat
  | .hbm => 4
  | .vmem => 10
  | .smem => 0
  | _ => 0

abbrev bufTy : (tb : Table) → Fin (tcTables nBuf tb) → BufTy
  | .hbm, ⟨0, _⟩ => ⟨S8x1x8x64, .f32⟩
  | .hbm, ⟨1, _⟩ => ⟨S8x512x8x64, .f32⟩
  | .hbm, ⟨2, _⟩ => ⟨S8x512x8x64, .f32⟩
  | .hbm, ⟨3, _⟩ => ⟨S8x1x8x64, .f32⟩
  | .local _ .vmem, ⟨0, _⟩ => ⟨S8x1x8x64, .f32⟩
  | .local _ .vmem, ⟨1, _⟩ => ⟨S8x64x8x64, .f32⟩
  | .local _ .vmem, ⟨2, _⟩ => ⟨S8x64x8x64, .f32⟩
  | .local _ .vmem, ⟨3, _⟩ => ⟨S8x64x8x64, .f32⟩
  | .local _ .vmem, ⟨4, _⟩ => ⟨S8x64x8x64, .f32⟩
  | .local _ .vmem, ⟨5, _⟩ => ⟨S8x1x8x64, .f32⟩
  | .local _ .vmem, ⟨6, _⟩ => ⟨S8x8x64, .f32⟩
  | .local _ .vmem, ⟨7, _⟩ => ⟨S8x8, .f32⟩
  | .local _ .vmem, ⟨8, _⟩ => ⟨S2x8x8x64, .f32⟩
  | .local _ .vmem, ⟨9, _⟩ => ⟨S2x8x8x64, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 16
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_17 : BitVec 32 := 0#32
  let v26 : BitVec 1 := Scalar.cmpi .ne v25 c0_i32_17
  v26

def k0_dev1 (d27 : Dev nD) : Nat :=
  let c0_i32_23 : BitVec 32 := 0#32
  let v27 : BitVec 32 := Dev.word d27
  let c8_i32 : BitVec 32 := 8#32
  let v28 : BitVec 32 := Scalar.divsi v27 c8_i32
  let c2_i32 : BitVec 32 := 2#32
  let v29 : BitVec 32 := Scalar.remsi v28 c2_i32
  let c8_i32_22 : BitVec 32 := 8#32
  let v38 : BitVec 32 := Scalar.muli v29 c8_i32_22
  let v39 : BitVec 32 := Scalar.addi c0_i32_23 v38
  let c1_i32_20 : BitVec 32 := 1#32
  let v30 : BitVec 32 := Dev.word d27
  let c4_i32 : BitVec 32 := 4#32
  let v31 : BitVec 32 := Scalar.divsi v30 c4_i32
  let c2_i32_18 : BitVec 32 := 2#32
  let v32 : BitVec 32 := Scalar.remsi v31 c2_i32_18
  let v36 : BitVec 32 := Scalar.subi c1_i32_20 v32
  let c4_i32_24 : BitVec 32 := 4#32
  let v40 : BitVec 32 := Scalar.muli v36 c4_i32_24
  let v41 : BitVec 32 := Scalar.addi v39 v40
  let v33 : BitVec 32 := Dev.word d27
  let c1_i32 : BitVec 32 := 1#32
  let v34 : BitVec 32 := Scalar.divsi v33 c1_i32
  let c4_i32_19 : BitVec 32 := 4#32
  let v35 : BitVec 32 := Scalar.remsi v34 c4_i32_19
  let c1_i32_25 : BitVec 32 := 1#32
  let v42 : BitVec 32 := Scalar.muli v35 c1_i32_25
  let v43 : BitVec 32 := Scalar.addi v41 v42
  v43.toNat
def k0_dev2 (d27 : Dev nD) : Nat :=
  let c0_i32_40 : BitVec 32 := 0#32
  let v27 : BitVec 32 := Dev.word d27
  let c8_i32 : BitVec 32 := 8#32
  let v28 : BitVec 32 := Scalar.divsi v27 c8_i32
  let c2_i32 : BitVec 32 := 2#32
  let v29 : BitVec 32 := Scalar.remsi v28 c2_i32
  let c8_i32_39 : BitVec 32 := 8#32
  let v55 : BitVec 32 := Scalar.muli v29 c8_i32_39
  let v56 : BitVec 32 := Scalar.addi c0_i32_40 v55
  let c1_i32_20 : BitVec 32 := 1#32
  let v30 : BitVec 32 := Dev.word d27
  let c4_i32 : BitVec 32 := 4#32
  let v31 : BitVec 32 := Scalar.divsi v30 c4_i32
  let c2_i32_18 : BitVec 32 := 2#32
  let v32 : BitVec 32 := Scalar.remsi v31 c2_i32_18
  let v36 : BitVec 32 := Scalar.subi c1_i32_20 v32
  let c4_i32_41 : BitVec 32 := 4#32
  let v57 : BitVec 32 := Scalar.muli v36 c4_i32_41
  let v58 : BitVec 32 := Scalar.addi v56 v57
  let v33 : BitVec 32 := Dev.word d27
  let c1_i32 : BitVec 32 := 1#32
  let v34 : BitVec 32 := Scalar.divsi v33 c1_i32
  let c4_i32_19 : BitVec 32 := 4#32
  let v35 : BitVec 32 := Scalar.remsi v34 c4_i32_19
  let c1_i32_42 : BitVec 32 := 1#32
  let v59 : BitVec 32 := Scalar.muli v35 c1_i32_42
  let v60 : BitVec 32 := Scalar.addi v58 v59
  v60.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x8x64 : Shape := ⟨4, ![8, 1, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S8x1024x8x64, .f32⟩
  | .hbm, ⟨2, _⟩ => ⟨S8x1024x8x64, .f32⟩
  | .hbm, ⟨3, _⟩ => ⟨S8x8x1x1024, .f32⟩
  | .hbm, ⟨4, _⟩ => ⟨S_, .f32⟩
  | .hbm, ⟨5, _⟩ => ⟨S8x8x1x1024, .f32⟩
  | .hbm, ⟨6, _⟩ => ⟨S8x8x1x1024, .f32⟩
  | .hbm, ⟨7, _⟩ => ⟨S_, .f32⟩
  | .hbm, ⟨8, _⟩ => ⟨S8x8x1, .f32⟩
  | .hbm, ⟨9, _⟩ => ⟨S8x8x1x1, .f32⟩
  | .hbm, ⟨10, _⟩ => ⟨S8x8x1x1024, .f32⟩
  | .hbm, ⟨11, _⟩ => ⟨S8x8x1x1024, .f32⟩
  | .hbm, ⟨12, _⟩ => ⟨S8x8x1x1024, .f32⟩
  | .hbm, ⟨13, _⟩ => ⟨S_, .f32⟩
  | .hbm, ⟨14, _⟩ => ⟨S8x8x1, .f32⟩
  | .hbm, ⟨15, _⟩ => ⟨S8x8x1x1, .f32⟩
  | .hbm, ⟨16, _⟩ => ⟨S8x8x1x1024, .f32⟩
  | .hbm, ⟨17, _⟩ => ⟨S8x8x1x1024, .f32⟩
  | .hbm, ⟨18, _⟩ => ⟨S8x8x64x1, .f32⟩
  | .hbm, ⟨19, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealSchedule.lean ====
/-
# The exchange between two partner devices, as a protocol

Sixteen devices run the kernel. The key and value rows are cut in two halves, so every device has one
partner holding the other half (`partner`, an involution). On the last grid point a device signals its
partner's barrier semaphore, waits for its own, and then copies its packed partial sums into the
partner's landing buffer. This module states that protocol: three semaphore cells per device, one round,
one payment per cell, what each payment hands over, and what a device owes and at which level it waits.
It also names the contents: the two running sums after each grid point, and the packed buffer sent.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.VecWindow
public import Idealize.ShloMosaic.Lib.Tactic

@[expose] public section

set_option maxRecDepth 16384

noncomputable section

namespace Cert.KernelIdealExchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's share and the exchange's share -/

/-- The exchange's own round ledger; every cell has one payment, so its payments are named by `Unit`. -/
abbrev Ledger : Type := URounds (GSem nD τ sig) Unit
abbrev Ghost : Type := UR sig nD τ × Ledger

local notation "𝕄" => MT nD τ sig Unit (Elt F) ℕ Ghost ℕ

abbrev EPipe : Emb (UR sig nD τ) (MT nD τ sig Unit (Elt F) ℕ Ghost ℕ) := embL
abbrev EX : Emb Ledger (MT nD τ sig Unit (Elt F) ℕ Ghost ℕ) := embR

variable (m : (ℓ : Loc nD τ sig) → Buf (Elt F) ℓ)

/-! ## Partners -/

set_option backward.proofsInPublic true in
/-- The device holding the other half of the rows: the middle mesh coordinate flipped. -/
def partner (c : Dev nD) : Dev nD :=
  ⟨(8 * (c.val / 8) + (c.val % 4) + 4) - 4 * ((c.val / 4) % 2), by have := c.isLt; show _ < 16; have : c.val < 16 := this; omega⟩

theorem partner_partner (c : Dev nD) : partner (partner c) = c := by revert c; decide

/-- The signal names the partner, -/
theorem signalled_eq (i : grid0.Coords) (h : k0_cond3 i = 1#1) (c : Dev nD) : (⟨k0_dev1 c, k0_dev1_lt i c h⟩ : Dev nD) = partner c :=
  Fin.ext (k0_dev1_eq c)
/-- and so does the copy. -/
theorem addressed_eq (i : grid0.Coords) (h : k0_cond3 i = 1#1) (c : Dev nD) : (⟨k0_dev2 c, k0_dev2_lt i c h⟩ : Dev nD) = partner c :=
  Fin.ext (k0_dev2_eq c)

def swap : Dev nD ≃ Dev nD := ⟨partner, partner, partner_partner, partner_partner⟩

/-! ## Buffers and cells -/

/-- The packed sums a device sends, and the buffer its partner's land in. -/
abbrev outM : Memref sig .tc .vmem S2x8x8x64 .f32 := Memref.whole cc0_scratch2
abbrev inM : Memref sig .tc .vmem S2x8x8x64 .f32 := Memref.whole cc0_scratch3

abbrev gate : Sem sig := (SemArray.scalar (sig.barrier 0 rfl) : Sems sig S_).sem
abbrev sentS : DmaSem sig := (cc0_scratch4 : DmaSems sig S_).sem
abbrev gotS : DmaSem sig := (cc0_scratch5 : DmaSems sig S_).sem

abbrev gateCell (c : Dev nD) : GSem nD τ sig := ((c : Thread nD τ), .reg gate)
abbrev sentCell (c : Dev nD) : GSem nD τ sig := ((c : Thread nD τ), .dma sentS)
abbrev gotCell (c : Dev nD) : GSem nD τ sig := ((c : Thread nD τ), .dma gotS)

/-- The kernel's own semaphores, and all three of the exchange's. -/
abbrev ownS : Fin 2 → SemLoc sig := fun | 0 => .dma sentS | 1 => .dma gotS
abbrev allS : Fin 3 → SemLoc sig := fun | 0 => .reg gate | 1 => .dma sentS | 2 => .dma gotS
abbrev cellAt (x : Dev nD × Fin 3) : GSem nD τ sig := ((x.1 : Thread nD τ), allS x.2)

/-- What the copy is worth on a semaphore. -/
abbrev bytes : ℕ := (inM : Memref sig .tc .vmem S2x8x8x64 .f32).view.dmaCredit
theorem bytes_pos : 0 < bytes := View.dmaCredit_pos _ (by decide)

/-! ## Contents -/

set_option backward.proofsInPublic true in
/-- Grid point `n`, for `n` below eight. -/
def pt (n : ℕ) : Fin cfg0.N := ⟨n % 8, by show n % 8 < grid0.N; rw [N_0]; exact Nat.mod_lt _ (by decide)⟩

theorem pt_val (t : Fin cfg0.N) : pt t.val = t := by
  have h : t.val < 8 := lt_of_lt_of_eq t.isLt N_0
  exact Fin.ext (Nat.mod_eq_of_lt h)

/-- The query block, and the key and value blocks of a grid point. -/
def qAt (c : Dev nD) (t : Fin cfg0.N) : Vec F S8x1x8x64 .f32 := iblk m c 0 t
def kAt (c : Dev nD) (t : Fin cfg0.N) : Vec F S8x64x8x64 .f32 := iblk m c 1 t
def vAt (c : Dev nD) (t : Fin cfg0.N) : Vec F S8x64x8x64 .f32 := iblk m c 2 t

/-- The running weighted sum after grid point `n`; -/
def accO (c : Dev nD) : ℕ → Vec F S8x8x64 .f32
  | 0 => k0_pay4 (qAt m c (pt 0)) (kAt m c (pt 0)) (vAt m c (pt 0))
  | n + 1 => k0_pay6 (qAt m c (pt (n + 1))) (kAt m c (pt (n + 1))) (vAt m c (pt (n + 1))) (accO c n)
/-- the running sum of weights. -/
def accL (c : Dev nD) : ℕ → Vec F S8x8 .f32
  | 0 => k0_pay5 (qAt m c (pt 0)) (kAt m c (pt 0))
  | n + 1 => k0_pay7 (qAt m c (pt (n + 1))) (kAt m c (pt (n + 1))) (accL c n)

theorem accO_zero (c : Dev nD) (t : Fin cfg0.N) (h : t.val = 0) : k0_pay4 (qAt m c t) (kAt m c t) (vAt m c t) = accO m c t.val := by
  obtain rfl : t = pt 0 := by rw [← pt_val t, h]
  rfl
theorem accL_zero (c : Dev nD) (t : Fin cfg0.N) (h : t.val = 0) : k0_pay5 (qAt m c t) (kAt m c t) = accL m c t.val := by
  obtain rfl : t = pt 0 := by rw [← pt_val t, h]
  rfl
theorem accO_next (c : Dev nD) (t : Fin cfg0.N) (h : t.val ≠ 0) :
    k0_pay6 (qAt m c t) (kAt m c t) (vAt m c t) (accO m c (t.val - 1)) = accO m c t.val := by
  obtain ⟨n, hn⟩ := Nat.exists_eq_succ_of_ne_zero h
  have ht : t = pt (n + 1) := by rw [← pt_val t, hn]
  rw [hn]; subst ht; rfl
theorem accL_next (c : Dev nD) (t : Fin cfg0.N) (h : t.val ≠ 0) :
    k0_pay7 (qAt m c t) (kAt m c t) (accL m c (t.val - 1)) = accL m c t.val := by
  obtain ⟨n, hn⟩ := Nat.exists_eq_succ_of_ne_zero h
  have ht : t = pt (n + 1) := by rw [← pt_val t, hn]
  rw [hn]; subst ht; rfl

theorem row_pos : ∀ a, 0 < S1x8x8x64.size a := by decide

/-- The two sums packed in one buffer: the weighted sum in row 0, the weights' sum spread along row 1. -/
def pack (O : Vec F S8x8x64 .f32) (S : Vec F S8x8 .f32) : Vec F S2x8x8x64 .f32 :=
  VecWindow.put (VecWindow.put (s := S2x8x8x64) (fun _ => k0_pay8 O fun a => ⟨0, row_pos a⟩) ![0, 0, 0, 0] S1x8x8x64.size (k0_pay8 O))
    ![1, 0, 0, 0] S1x8x8x64.size (k0_pay9 S)

def packed (c : Dev nD) : Vec F S2x8x8x64 .f32 := pack (accO m c 7) (accL m c 7)

/-- The kernel's result on device `c`. -/
def result (c : Dev nD) : Vec F S8x1x8x64 .f32 :=
  k0_pay10 (k0_pay8 (accO m c 7)) (k0_pay8 (accO m (partner c) 7)) (k0_pay9 (accL m c 7)) (k0_pay9 (accL m (partner c) 7))

/-- Buffer `b` of device `c`, whole, at contents `f`. -/
def held (b : Ref sig .tc) (c : Dev nD) (f : b.ty.Contents (Elt F)) : sProp 𝕄 :=
  (Memref.whole b).view.loc (c : Thread nD τ) ↦[(Memref.whole b).view.set]{fullShare} (f : Buf (Elt F) ((Memref.whole b).view.loc (c : Thread nD τ)))

omit [FloatOps F] in
instance held_storable (b : Ref sig .tc) (c : Dev nD) (f : b.ty.Contents (Elt F)) : BI.Storable (upEmb : UEmb _ 𝕄) (held b c f) := by
  unfold held; infer_instance
omit [FloatOps F] in
theorem held_eq (b : Ref sig .tc) (c : Dev nD) (f : b.ty.Contents (Elt F)) :
    held b c f = (((c : Thread nD τ).loc b) ↦{fullShare} f : sProp 𝕄) := by
  unfold held
  rw [show (Memref.whole b).view.set = Finset.univ from View.set_whole b]

/-! ## The schedule -/

/-- The partner's signal hands over its landing buffer, and that it stands at round 0 of its receive cell. -/
def gatePay (c : Dev nD) : sProp 𝕄 := iprop((∃ f, held cc0_scratch3 (partner c) f) ∗ reached EX (gotCell (partner c)) 0)
/-- The copy hands the receiver its landing buffer holding the partner's packed sums, -/
def gotPay (c : Dev nD) : sProp 𝕄 := held cc0_scratch3 c (packed m (partner c))
/-- and the sender its own packed sums back. -/
def sentPay (c : Dev nD) : sProp 𝕄 := held cc0_scratch2 c (packed m c)

abbrev Known (g : GSem nD τ sig) : Prop := g.1.2 = .tc ∧ (g.2 = .reg gate ∨ g.2 = .dma sentS ∨ g.2 = .dma gotS)

def plan : Rounds.Schedule (GSem nD τ sig) Unit 𝕄 where
  duties g r := if r = 0 ∧ Known g then {()} else ∅
  unitless _ := False
  amount g _ _ := if g.2 = .reg gate then 1 else bytes
  payload g _ _ :=
    if g.2 = .reg gate then gatePay g.1.1
    else if g.2 = .dma gotS then gotPay m g.1.1
    else if g.2 = .dma sentS then sentPay m g.1.1
    else iprop(emp)
  amount_pos g _ _ _ := by
    by_cases h : g.2 = .reg gate
    · rw [if_pos h]; exact Nat.one_pos
    · rw [if_neg h]; exact bytes_pos

instance plan_payload_storable (g : GSem nD τ sig) (r : ℕ) (d : Unit) : BI.Storable (upEmb : UEmb _ 𝕄) ((plan (F := F) m).payload g r d) := by
  show BI.Storable upEmb (if g.2 = .reg gate then gatePay g.1.1 else if g.2 = .dma gotS then gotPay m g.1.1
    else if g.2 = .dma sentS then sentPay m g.1.1 else iprop(emp))
  unfold gatePay gotPay sentPay
  (repeat' split) <;> infer_instance

section Plan
variable (c : Dev nD)

theorem sent_ne_gate : (SemLoc.dma sentS : SemLoc sig) ≠ .reg gate := fun h => by cases h
theorem got_ne_gate : (SemLoc.dma gotS : SemLoc sig) ≠ .reg gate := fun h => by cases h
theorem sent_ne_got : (SemLoc.dma sentS : SemLoc sig) ≠ .dma gotS := by decide

theorem duties_at (k : Fin 3) : (plan (F := F) m).duties (cellAt (c, k)) 0 = {()} := by
  dsimp only [plan]; refine if_pos ⟨rfl, rfl, ?_⟩
  fin_cases k
  · exact .inl rfl
  · exact .inr (.inl rfl)
  · exact .inr (.inr rfl)
theorem duties_gate : (plan (F := F) m).duties (gateCell c) 0 = {()} := duties_at m c 0
theorem duties_sent : (plan (F := F) m).duties (sentCell c) 0 = {()} := duties_at m c 1
theorem duties_got : (plan (F := F) m).duties (gotCell c) 0 = {()} := duties_at m c 2
theorem duties_after (g : GSem nD τ sig) : ∀ r, 1 ≤ r → (plan (F := F) m).duties g r = ∅ :=
  fun r hr => by dsimp only [plan]; exact if_neg fun h => by omega

theorem amount_gate : (plan (F := F) m).amount (gateCell c) 0 () = 1 := by dsimp only [plan]; exact if_pos rfl
theorem amount_sent : (plan (F := F) m).amount (sentCell c) 0 () = bytes := by dsimp only [plan]; exact if_neg sent_ne_gate
theorem amount_got : (plan (F := F) m).amount (gotCell c) 0 () = bytes := by dsimp only [plan]; exact if_neg got_ne_gate

theorem expect_gate : (plan (F := F) m).expect (gateCell c) 0 = 1 := by
  unfold Schedule.expect Schedule.amountOf; rw [duties_gate, Finset.sum_singleton, amount_gate]
theorem expect_sent : (plan (F := F) m).expect (sentCell c) 0 = bytes := by
  unfold Schedule.expect Schedule.amountOf; rw [duties_sent, Finset.sum_singleton, amount_sent]
theorem expect_got : (plan (F := F) m).expect (gotCell c) 0 = bytes := by
  unfold Schedule.expect Schedule.amountOf; rw [duties_got, Finset.sum_singleton, amount_got]

theorem payload_gate : (plan (F := F) m).payload (gateCell c) 0 () = gatePay c := by dsimp only [plan]; exact if_pos rfl
theorem payload_sent : (plan (F := F) m).payload (sentCell c) 0 () = sentPay m c := by
  dsimp only [plan]; rw [if_neg sent_ne_gate, if_neg sent_ne_got, if_pos rfl]
theorem payload_got : (plan (F := F) m).payload (gotCell c) 0 () = gotPay m c := by
  dsimp only [plan]; rw [if_neg got_ne_gate, if_pos rfl]

theorem rest_gate : bigSep ((plan (F := F) m).duties (gateCell c) 0 \ ∅) (fun d => (plan (F := F) m).payload (gateCell c) 0 d) = gatePay c := by
  rw [Finset.sdiff_empty, duties_gate, bigSep_singleton, payload_gate]
theorem rest_sent : bigSep ((plan (F := F) m).duties (sentCell c) 0 \ ∅) (fun d => (plan (F := F) m).payload (sentCell c) 0 d) = sentPay m c := by
  rw [Finset.sdiff_empty, duties_sent, bigSep_singleton, payload_sent]
theorem rest_got : bigSep ((plan (F := F) m).duties (gotCell c) 0 \ ∅) (fun d => (plan (F := F) m).payload (gotCell c) 0 d) = gotPay m c := by
  rw [Finset.sdiff_empty, duties_got, bigSep_singleton, payload_got]

end Plan

/-! ## Debts and levels -/

/-- A device owes its partner's receive cell the copy, -/
def debt₁ (c : Dev nD) : CellTallies nD τ sig Unit := tallyAt (gotCell (partner c)) () bytes
/-- and its partner's barrier one unit, which it pays first. -/
def debt (c : Dev nD) : CellTallies nD τ sig Unit := debt₁ c + tallyAt (gateCell (partner c)) () 1

def labels (g : GSem nD τ sig) : Finset Unit := if g.1.2 = .tc then {()} else ∅
def level (g : GSem nD τ sig) (_ : Unit) : ℕ := if g.2 = .reg gate then 1 else if g.2 = .dma gotS then 2 else 0

theorem labels_of_ne (g : GSem nD τ sig) (h : g.1.2 ≠ .tc) : labels g = ∅ := if_neg h
theorem mem_labels (c : Dev nD) (s : SemLoc sig) : () ∈ labels ((c : Thread nD τ), s) := by
  rw [show labels ((c : Thread nD τ), s) = {()} from if_pos rfl]; exact Finset.mem_singleton_self _
theorem level_gate (c : Dev nD) (u : Unit) : level (gateCell c) u = 1 := if_pos rfl
theorem level_got (c : Dev nD) (u : Unit) : level (gotCell c) u = 2 := by dsimp only [level]; rw [if_neg got_ne_gate, if_pos rfl]

theorem debt₁_pos {c : Dev nD} {g : GSem nD τ sig} {u : Unit} (h : 0 < debt₁ c g u) : g = gotCell (partner c) := by
  unfold debt₁ at h
  rw [tallyAt_apply] at h
  by_contra hn
  rw [if_neg (fun h' => hn h'.1)] at h
  exact Nat.lt_irrefl 0 h
theorem debt_pos {c : Dev nD} {g : GSem nD τ sig} {u : Unit} (h : 0 < debt c g u) : g = gotCell (partner c) ∨ g = gateCell (partner c) := by
  unfold debt at h
  rw [Pi.add_apply, Finsupp.add_apply] at h
  rcases Nat.eq_zero_or_pos (debt₁ c g u) with h0 | h0
  · rw [h0, Nat.zero_add, tallyAt_apply] at h
    by_contra hn
    rw [not_or] at hn
    rw [if_neg (fun h' => hn.2 h'.1)] at h
    exact Nat.lt_irrefl 0 h
  · exact .inl (debt₁_pos h0)

omit [FloatOps F] in
/-- The pipeline may wait for its own staging copies while the debt is outstanding, or after it is paid. -/
theorem mayWait_staging (c : Dev nD) (q : DmaSem sig) (hq : SemLoc.dma q ≠ .dma gotS) (O : CellTallies nD τ sig Unit) (hO : O = debt c ∨ O = 0) :
    (levAts labels level : sProp 𝕄) ⊢ MayWait (c : Thread nD τ) (.dma q) () O := by
  rcases hO with rfl | rfl
  · refine MayOwe.of_cut (L := labels) (lev := level) 0 (fun p hp => by rw [Finset.mem_singleton.mp hp]; exact mem_labels c _)
      (fun g u hg => by rcases debt_pos hg with rfl | rfl <;> exact mem_labels _ _)
      (fun p hp => by rw [Finset.mem_singleton.mp hp]; dsimp only [level]; rw [if_neg (fun h => by cases h), if_neg hq])
      (fun g u hg => by
        rcases debt_pos hg with rfl | rfl
        · rw [level_got]; decide
        · rw [level_gate]; decide)
  · rw [MayWait_zero]; iintro -; iempintro

omit [FloatOps F] in
/-- At its barrier wait a device owes only the copy, whose cell lies above every barrier. -/
theorem mayWait_gate (c : Dev nD) : (levAts labels level : sProp 𝕄) ⊢ MayWait (c : Thread nD τ) (.reg gate) () (debt₁ c) :=
  MayOwe.of_cut (L := labels) (lev := level) 1 (fun p hp => by rw [Finset.mem_singleton.mp hp]; exact mem_labels c _)
    (fun g u hg => by rw [debt₁_pos hg]; exact mem_labels _ _)
    (fun p hp => by rw [Finset.mem_singleton.mp hp]; exact le_of_eq (level_gate c ()))
    (fun g u hg => by rw [debt₁_pos hg, level_got]; decide)

/-! ## Reading and writing the packed buffer -/

theorem put_rows (x y : Vec F S2x8x8x64 .f32) (u w : Vec F S1x8x8x64 .f32) :
    VecWindow.put (VecWindow.put x ![0, 0, 0, 0] S1x8x8x64.size u) ![1, 0, 0, 0] S1x8x8x64.size w
      = VecWindow.put (VecWindow.put y ![0, 0, 0, 0] S1x8x8x64.size u) ![1, 0, 0, 0] S1x8x8x64.size w := by
  funext j
  have h0 : (j 0).val < 2 := (j 0).isLt
  have h1 : (j 1).val < 8 := (j 1).isLt
  have h2 : (j 2).val < 8 := (j 2).isLt
  have h3 : (j 3).val < 64 := (j 3).isLt
  unfold VecWindow.put
  split
  · rfl
  · rename_i hn
    have hrow : (j 0).val = 0 := by
      by_contra hne
      refine hn fun a => ?_
      match a with
      | ⟨0, _⟩ => show 1 ≤ (j 0).val ∧ (j 0).val < 1 + 1; omega
      | ⟨1, _⟩ => show 0 ≤ (j 1).val ∧ (j 1).val < 0 + 8; omega
      | ⟨2, _⟩ => show 0 ≤ (j 2).val ∧ (j 2).val < 0 + 8; omega
      | ⟨3, _⟩ => show 0 ≤ (j 3).val ∧ (j 3).val < 0 + 64; omega
    have hin : ∀ a, (![0, 0, 0, 0] : Fin 4 → ℕ) a ≤ (j a).val ∧ (j a).val < (![0, 0, 0, 0] : Fin 4 → ℕ) a + S1x8x8x64.size a := fun a => by
      match a with
      | ⟨0, _⟩ => show 0 ≤ (j 0).val ∧ (j 0).val < 0 + 1; omega
      | ⟨1, _⟩ => show 0 ≤ (j 1).val ∧ (j 1).val < 0 + 8; omega
      | ⟨2, _⟩ => show 0 ≤ (j 2).val ∧ (j 2).val < 0 + 8; omega
      | ⟨3, _⟩ => show 0 ≤ (j 3).val ∧ (j 3).val < 0 + 64; omega
    rw [dif_pos hin, dif_pos hin]

theorem row0_pack (O : Vec F S8x8x64 .f32) (S : Vec F S8x8 .f32) (inb) :
    VecWindow.window (s := S2x8x8x64) (pack O S) ![0, 0, 0, 0] S1x8x8x64.size inb = k0_pay8 O := by
  unfold pack
  rw [VecWindow.window_put_of_disjoint _ _ _ _ _ inb _ (0 : Fin 4) (.inl (by decide)), VecWindow.window_put_same]
theorem row1_pack (O : Vec F S8x8x64 .f32) (S : Vec F S8x8 .f32) (inb) :
    VecWindow.window (s := S2x8x8x64) (pack O S) ![1, 0, 0, 0] S1x8x8x64.size inb = k0_pay9 S := by
  unfold pack
  rw [VecWindow.window_put_same]

end Cert.KernelIdealExchange

end
-- ==== Proof.KernelIdealData.lean ====
/-
# What the run of one device carries from grid point to grid point

The invariant between grid points (`carry`), the proof data of the pipelined call (`dats`), and the two
rules a body step needs most: a load of a whole buffer and a store over a whole buffer.
-/
module

public import proofs.«01_k».proof.Proof.KernelIdealSchedule

@[expose] public section

set_option maxRecDepth 16384

noncomputable section

namespace Cert.KernelIdealExchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## The ghost state a device starts from -/

/-- The cell invariants a device opens: its own three, its partner's barrier and its partner's receive cell. -/
def known (K : Dev nD × Fin 3 → ℕ) (c : Dev nD) : sProp 𝕄 :=
  iprop(cellInv EX (plan m) (K (c, 0)) (gateCell c) ∗ cellInv EX (plan m) (K (c, 1)) (sentCell c) ∗ cellInv EX (plan m) (K (c, 2)) (gotCell c)
    ∗ cellInv EX (plan m) (K (partner c, 0)) (gateCell (partner c)) ∗ cellInv EX (plan m) (K (partner c, 2)) (gotCell (partner c)))

instance known_persistent (K : Dev nD × Fin 3 → ℕ) (c : Dev nD) : BI.Persistent (known m K c) := by unfold known; infer_instance

/-- With them, its position in each own cell, the round marks it needs, and the right to make its three payments. -/
def rights (K : Dev nD × Fin 3 → ℕ) (c : Dev nD) : sProp 𝕄 :=
  iprop(known m K c
    ∗ (atPos EX (gateCell c) 0 ∅ 0 ∗ atPos EX (sentCell c) 0 ∅ 0 ∗ atPos EX (gotCell c) 0 ∅ 0)
    ∗ (reached EX (gateCell (partner c)) 0 ∗ reached EX (gotCell (partner c)) 0 ∗ reached EX (sentCell c) 0 ∗ reached EX (gotCell c) 0)
    ∗ dutyTok EX (gateCell (partner c)) 0 () ∗ dutyTok EX (gotCell (partner c)) 0 () ∗ dutyTok EX (sentCell c) 0 ())

/-- The rights, the credit for what it waits for, and the levels. -/
def ready (c : Dev nD) : sProp 𝕄 :=
  iprop((∃ K, rights m K c) ∗ cred (tallyAt (gateCell c) () 1) ∗ cred (tallyAt (gotCell c) () bytes) ∗ levAts labels level)

/-- The two accumulators before grid point `n`: anything before the first, the running sums afterwards. -/
def sums (c : Dev nD) (n : ℕ) : sProp 𝕄 :=
  iprop(∃ O S, ⌜n ≠ 0 → O = accO m c (n - 1) ∧ S = accL m c (n - 1)⌝ ∗ held cc0_scratch0 c O ∗ held cc0_scratch1 c S)

/-- The two exchange buffers, at any contents. -/
def spare (c : Dev nD) : sProp 𝕄 := iprop((∃ f, held cc0_scratch2 c f) ∗ ∃ f, held cc0_scratch3 c f)

/-- After the last point the exchange is over and its cells are back at zero. -/
def over (c : Dev nD) : sProp 𝕄 := iprop(semVal (sentCell c) 0 ∗ semVal (gotCell c) 0 ∗ semVal (gateCell c) 0)

/-- The invariant before grid point `n`. -/
def carry (c : Dev nD) (n : ℕ) : sProp 𝕄 := iprop((if n = 8 then over c else ready m c) ∗ sums m c n ∗ spare c)

theorem carry_before (c : Dev nD) (n : ℕ) (h : n < 8) : carry m c n = iprop(ready m c ∗ sums m c n ∗ spare c) := by
  unfold carry; rw [if_neg (Nat.ne_of_lt h)]
theorem carry_end (c : Dev nD) : carry m c 8 = iprop(over c ∗ sums m c 8 ∗ spare c) := by unfold carry; rw [if_pos rfl]

def owedAt (c : Dev nD) (n : ℕ) : CellTallies nD τ sig Unit := if n = 8 then 0 else debt c
theorem owedAt_before (c : Dev nD) (n : ℕ) (h : n < 8) : owedAt c n = debt c := if_neg (Nat.ne_of_lt h)
theorem owedAt_end (c : Dev nD) : owedAt c 8 = 0 := if_pos rfl

/-- The proof data: inputs stay in place, the result block holds `result` when it is written back. -/
def dats (_ : Fin 1) (c : Dev nD) : Dat τ (Elt F) Unit ℕ Ghost ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => result m c
  Φ t := carry m c t.val
  q _ := fullShare
  owed t := owedAt c t.val

theorem before_q (c : Dev nD) (t : Fin cfg0.N) (d) : (dats m 0 c).before 0 t d = qAt m c t :=
  ((dats m 0 c).before_in_eq_fetched 0 rfl (fun _ => rfl) (fun _ _ _ => rfl) (fun t => rfl) t d).trans rfl
theorem before_k (c : Dev nD) (t : Fin cfg0.N) (d) : (dats m 0 c).before 1 t d = kAt m c t :=
  ((dats m 0 c).before_in_eq_fetched 1 rfl (fun _ => rfl) (fun _ _ _ => rfl) (fun t => rfl) t d).trans rfl
theorem before_v (c : Dev nD) (t : Fin cfg0.N) (d) : (dats m 0 c).before 2 t d = vAt m c t :=
  ((dats m 0 c).before_in_eq_fetched 2 rfl (fun _ => rfl) (fun _ _ _ => rfl) (fun t => rfl) t d).trans rfl

abbrev noVariants : Variants := Variants.none

/-! ## Loads and stores of whole buffers -/

section Whole

variable {α : Type} (c : Dev nD)

theorem load_owned {s : Shape} {e : EltTy} (M : Memref sig .tc .vmem s e) (X : s.Idx → Elt F e) {off : Fin s.rank → ℕ}
    (inb : ∀ a, off a + s.size a ≤ s.size a) {hl : M.view.LoadsAt (Rect.unit off s.size inb).toLoadRect}
    {Q : α → sProp 𝕄} {k : (s.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) noVariants (c : Thread nD τ) none) Set.univ (k X) Q)
          -∗ wp frame (wpE (defs₀ (F := F)) noVariants (c : Thread nD τ) none) Set.univ (.op (.load M (Rect.unit off s.size inb).toLoadRect hl) k) Q) := by
  unfold owns
  iintro ⟨%f, %hf, H⟩ Hk
  iapply (wp_load noVariants (c : Thread nD τ) none Set.univ (m := M) (M.view.setOn_subset_set _)) $$ H
  iintro H
  rw [View.readAt_full, hf]
  iapply Hk
  iexists f
  isplitr; · (ipureintro; exact hf)
  iexact H

theorem store_owned {s : Shape} {e : EltTy} (M : Memref sig .tc .vmem s e) (X w : s.Idx → Elt F e) {off : Fin s.rank → ℕ}
    (inb : ∀ a, off a + s.size a ≤ s.size a) {hx : (M.access (Rect.unit off s.size inb)).Stores Finset.univ} {hm}
    {Q : α → sProp 𝕄} {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) noVariants (c : Thread nD τ) none) Set.univ (k ⟨⟩) Q)
          -∗ wp frame (wpE (defs₀ (F := F)) noVariants (c : Thread nD τ) none) Set.univ (.op (.store M (Rect.unit off s.size inb) w Finset.univ hx hm) k) Q) := by
  unfold owns
  iintro ⟨%f, %hf, H⟩ Hk
  iapply (wp_store noVariants (c : Thread nD τ) none Set.univ (m := M) (r := Rect.unit off s.size inb) (Mk := Finset.univ)
    (M.view.set_slice_subset (Rect.unit off s.size inb))) $$ H
  iintro H
  iapply Hk
  iexists _
  isplitr
  · ipureintro
    exact View.read_writes_full M.view f inb w []
  iexact H

/-- A buffer held at `f` is a whole memref owned at `f`. -/
theorem owns_of_held (b : Ref sig .tc) (f : b.ty.Contents (Elt F)) :
    (held b c f : sProp 𝕄) ⊢ owns (c : Thread nD τ) (Memref.whole b) fullShare f := by
  unfold held owns
  iintro H
  iexists f
  isplitr; · (ipureintro; exact View.read_whole b f)
  iexact H
theorem held_of_owns (b : Ref sig .tc) (f : b.ty.Contents (Elt F)) :
    (owns (c : Thread nD τ) (Memref.whole b) fullShare f : sProp 𝕄) ⊢ held b c f := by
  unfold held owns
  iintro ⟨%g, %hg, H⟩
  have h : g = f := (View.read_whole b g).symm.trans hg
  subst h
  iexact H

end Whole

end Cert.KernelIdealExchange

end
-- ==== Proof.KernelIdealBody.lean ====
/-
# The body, run at each grid point

The first point stores the chunk's sums, a later point adds them to the running sums, and the last point
goes on to the exchange: signal the partner, wait for the partner's signal (which brings the partner's
landing buffer), pack the sums, copy them into that buffer, wait for the copy to have left and for the
partner's copy to have landed, and store the quotient. The two own copy cells and the barrier cell close.
-/
module

public import proofs.«01_k».proof.Proof.KernelIdealData

@[expose] public section

set_option maxRecDepth 16384

noncomputable section

namespace Cert.KernelIdealExchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## Which branches a grid point takes -/

theorem at_first : ∀ t : Fin grid0.N, Scalar.cmpi .ne (Scalar.extui (Scalar.cmpi .eq (BitVec.ofNat 32 (grid0.coords t 0).val) 0#32) : BitVec 32) 0#32 = 1#1 ↔ t.val = 0 := by
  decide +kernel
theorem at_later : ∀ t : Fin grid0.N, Scalar.cmpi .ne (Scalar.extui (Scalar.cmpi .ne (BitVec.ofNat 32 (grid0.coords t 0).val) 0#32) : BitVec 32) 0#32 = 1#1 ↔ t.val ≠ 0 := by
  decide +kernel
theorem at_last : ∀ t : Fin grid0.N, k0_cond3 (grid0.coords t) = 1#1 ↔ t.val = 7 := by
  decide +kernel

/-- The kernel's own buffers and semaphores, passed to the skeleton of its body. -/
theorem body_skel (t : Fin cfg0.N) : bodyAt0 (F := F) t
    = cc0_body_skel (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 := rfl

/-- The three input blocks of grid point `t`, staged. -/
def staged (c : Dev nD) (t : Fin cfg0.N) : sProp 𝕄 :=
  iprop(owns (c : Thread nD τ) (st0_0 t) fullShare (qAt m c t) ∗ owns (c : Thread nD τ) (st0_1 t) fullShare (kAt m c t)
    ∗ owns (c : Thread nD τ) (st0_2 t) fullShare (vAt m c t))

theorem first_point (c : Dev nD) (t : Fin cfg0.N) (h : t.val = 0) (Q : PUnit → sProp 𝕄) :
    iprop(staged m c t ∗ sums m c t.val ∗ (staged m c t ∗ sums m c (t.val + 1) -∗ Q ⟨⟩))
      ⊢ wp frame (wpE (defs₀ (F := F)) noVariants (c : Thread nD τ) none) Set.univ (bodyAt0 t) Q := by
  rw [body_skel]
  unfold cc0_body_skel
  simp only [Prog.lift, Prog.bind_op, Prog.bind_ret, Prog.pure_eq_ret, dif_pos ((at_first t).2 h), dif_neg (fun h' => (at_later t).1 h' h),
    dif_neg (fun h' => absurd ((at_last t).1 h') (by rw [h]; decide))]
  unfold staged sums
  iintro ⟨⟨Hq, Hk, Hv⟩, ⟨%O, %S, %hOS, HO, HS⟩, Hc⟩
  ihave HO := owns_of_held c cc0_scratch0 O $$ HO
  ihave HS := owns_of_held c cc0_scratch1 S $$ HS
  iapply (load_owned c (st0_0 t) _ _) $$ Hq; iintro Hq
  iapply (load_owned c (st0_1 t) _ _) $$ Hk; iintro Hk
  iapply (load_owned c (st0_2 t) _ _) $$ Hv; iintro Hv
  iapply (load_owned c (Memref.whole cc0_scratch0) _ _) $$ HO; iintro HO
  iapply (store_owned c (Memref.whole cc0_scratch0) _ _ _) $$ HO; iintro HO
  iapply (load_owned c (Memref.whole cc0_scratch1) _ _) $$ HS; iintro HS
  iapply (store_owned c (Memref.whole cc0_scratch1) _ _ _) $$ HS; iintro HS
  rw [wp_ret]; imodintro
  iapply Hc
  ihave HO := held_of_owns c cc0_scratch0 _ $$ HO
  ihave HS := held_of_owns c cc0_scratch1 _ $$ HS
  isplitl [Hq Hk Hv]
  · isplitl [Hq]; · iexact Hq
    isplitl [Hk]; · iexact Hk
    iexact Hv
  iexists _, _
  isplitr
  · ipureintro
    exact fun _ => ⟨accO_zero m c t h, accL_zero m c t h⟩
  isplitl [HO]; · iexact HO
  iexact HS

/-- A later point's sums, whatever follows them. -/
theorem later_point (c : Dev nD) (t : Fin cfg0.N) (h : t.val ≠ 0) (Q : PUnit → sProp 𝕄) :
    iprop(staged m c t ∗ sums m c t.val
        ∗ (staged m c t ∗ sums m c (t.val + 1) -∗ wp frame (wpE (defs₀ (F := F)) noVariants (c : Thread nD τ) none) Set.univ
            (if h3 : k0_cond3 (grid0.coords t) = 1#1 then
              (k0_part2 (grid0.coords t) (st0_0 t) (hstage0_0 ((cfg0.slots t 0).cast nbuf0_0)) (st0_1 t) (hstage0_1 ((cfg0.slots t 1).cast nbuf0_1))
                (st0_2 t) (hstage0_2 ((cfg0.slots t 2).cast nbuf0_2)) (st0_3 t) (hstage0_3 ((cfg0.slots t 3).cast nbuf0_3))
                (Memref.whole cc0_scratch0) (Memref.isWhole_whole _) (Memref.whole cc0_scratch1) (Memref.isWhole_whole _)
                (Memref.whole cc0_scratch2) (Memref.isWhole_whole _) (Memref.whole cc0_scratch3) (Memref.isWhole_whole _) cc0_scratch4 cc0_scratch5 h3
                >>= fun _ => Prog.ret PUnit.unit)
             else Prog.ret PUnit.unit) Q))
      ⊢ wp frame (wpE (defs₀ (F := F)) noVariants (c : Thread nD τ) none) Set.univ (bodyAt0 t) Q := by
  rw [body_skel]
  unfold cc0_body_skel
  simp only [Prog.lift, Prog.bind_op, Prog.bind_ret, Prog.pure_eq_ret, dif_neg (fun h' => h ((at_first t).1 h')), dif_pos ((at_later t).2 h)]
  unfold staged sums
  iintro ⟨⟨Hq, Hk, Hv⟩, ⟨%O, %S, %hOS, HO, HS⟩, Hc⟩
  obtain ⟨rfl, rfl⟩ := hOS h
  ihave HO := owns_of_held c cc0_scratch0 _ $$ HO
  ihave HS := owns_of_held c cc0_scratch1 _ $$ HS
  iapply (load_owned c (st0_0 t) _ _) $$ Hq; iintro Hq
  iapply (load_owned c (st0_1 t) _ _) $$ Hk; iintro Hk
  iapply (load_owned c (st0_2 t) _ _) $$ Hv; iintro Hv
  iapply (load_owned c (Memref.whole cc0_scratch0) _ _) $$ HO; iintro HO
  iapply (load_owned c (Memref.whole cc0_scratch0) _ _) $$ HO; iintro HO
  iapply (store_owned c (Memref.whole cc0_scratch0) _ _ _) $$ HO; iintro HO
  iapply (load_owned c (Memref.whole cc0_scratch1) _ _) $$ HS; iintro HS
  iapply (load_owned c (Memref.whole cc0_scratch1) _ _) $$ HS; iintro HS
  iapply (store_owned c (Memref.whole cc0_scratch1) _ _ _) $$ HS; iintro HS
  iapply Hc
  ihave HO := held_of_owns c cc0_scratch0 _ $$ HO
  ihave HS := held_of_owns c cc0_scratch1 _ $$ HS
  isplitl [Hq Hk Hv]
  · isplitl [Hq]; · iexact Hq
    isplitl [Hk]; · iexact Hk
    iexact Hv
  iexists _, _
  isplitr
  · ipureintro
    exact fun _ => ⟨accO_next m c t h, accL_next m c t h⟩
  isplitl [HO]; · iexact HO
  iexact HS

theorem middle_point (c : Dev nD) (t : Fin cfg0.N) (h : t.val ≠ 0) (h7 : t.val ≠ 7) (Q : PUnit → sProp 𝕄) :
    iprop(staged m c t ∗ sums m c t.val ∗ (staged m c t ∗ sums m c (t.val + 1) -∗ Q ⟨⟩))
      ⊢ wp frame (wpE (defs₀ (F := F)) noVariants (c : Thread nD τ) none) Set.univ (bodyAt0 t) Q := by
  iintro ⟨Hst, Hs, Hc⟩
  iapply (later_point m c t h Q)
  isplitl [Hst]; · iexact Hst
  isplitl [Hs]; · iexact Hs
  iintro H
  rw [dif_neg (fun h' => h7 ((at_last t).1 h')), wp_ret]
  imodintro
  iapply Hc
  iexact H

/-! ## Loads and stores of one row of a packed buffer -/

section Rows

variable {α : Type} (c : Dev nD)

theorem load_row {s : Shape} {e : EltTy} (M : Memref sig .tc .vmem s e) (X : s.Idx → Elt F e) {off size : Fin s.rank → ℕ}
    (inb : ∀ a, off a + size a ≤ s.size a) {hl : M.view.LoadsAt (Rect.unit off size inb).toLoadRect}
    {Q : α → sProp 𝕄} {k : ((Rect.unit off size inb).shape.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) noVariants (c : Thread nD τ) none) Set.univ
              (k (VecWindow.window X off size inb)) Q)
          -∗ wp frame (wpE (defs₀ (F := F)) noVariants (c : Thread nD τ) none) Set.univ (.op (.load M (Rect.unit off size inb).toLoadRect hl) k) Q) := by
  unfold owns
  iintro ⟨%f, %hf, H⟩ Hk
  iapply (wp_load noVariants (c : Thread nD τ) none Set.univ (m := M) (M.view.setOn_subset_set _)) $$ H
  iintro H
  rw [View.readAt_unit M.view f inb rfl inb, hf]
  iapply Hk
  iexists f
  isplitr; · (ipureintro; exact hf)
  iexact H

theorem store_row {s : Shape} {e : EltTy} (M : Memref sig .tc .vmem s e) (X : s.Idx → Elt F e) {off size : Fin s.rank → ℕ}
    (inb : ∀ a, off a + size a ≤ s.size a) (w : (Rect.unit off size inb).shape.Idx → Elt F e)
    {hx : (M.access (Rect.unit off size inb)).Stores Finset.univ} {hm}
    {Q : α → sProp 𝕄} {k : PUnit → Prog (TpuEff nD τ sig (Elt F) Λ₀ .tc) α} :
    (owns (c : Thread nD τ) M fullShare X : sProp 𝕄)
      ⊢ iprop((owns (c : Thread nD τ) M fullShare (VecWindow.put X off size w) -∗ wp frame (wpE (defs₀ (F := F)) noVariants (c : Thread nD τ) none) Set.univ (k ⟨⟩) Q)
          -∗ wp frame (wpE (defs₀ (F := F)) noVariants (c : Thread nD τ) none) Set.univ (.op (.store M (Rect.unit off size inb) w Finset.univ hx hm) k) Q) := by
  unfold owns
  iintro ⟨%f, %hf, H⟩ Hk
  iapply (wp_store noVariants (c : Thread nD τ) none Set.univ (m := M) (r := Rect.unit off size inb) (Mk := Finset.univ)
    (M.view.set_slice_subset (Rect.unit off size inb))) $$ H
  iintro H
  iapply Hk
  iexists _
  isplitr
  · ipureintro
    exact (View.read_writes_cons_put M.view f inb w [] rfl).trans (congrArg (fun x => VecWindow.put x off size w) hf)
  iexact H

end Rows

/-! ## The exchange -/

/-- The copy leaves the sent contents in the landing buffer, whatever was there. -/
theorem landed (f : (cc0_scratch3 : Ref sig .tc).ty.Contents (Elt F)) (x : Vec F S2x8x8x64 .f32) :
    (inM : Memref sig .tc .vmem S2x8x8x64 .f32).view.write (Elt F) f
      ((outM : Memref sig .tc .vmem S2x8x8x64 .f32).view.read (Elt F) x) Finset.univ = x := by
  rw [show (outM : Memref sig .tc .vmem S2x8x8x64 .f32).view.read (Elt F) x = x from View.read_whole cc0_scratch2 _]
  exact (View.read_whole cc0_scratch3 _).symm.trans (View.read_write_univ _ _)

/-- The copy of the packed sums into the partner's landing buffer, whose device is given by `n = partner c`. -/
theorem send_packed (K : Dev nD × Fin 3 → ℕ) (c n : Dev nD) (hn : n = partner c)
    {hsc : (inM : Memref sig (Dev.tc n : Thread nD τ).2.kind .vmem S2x8x8x64 .f32).view.ref.isScScratch = false}
    {hsrc : (outM : Memref sig .tc .vmem S2x8x8x64 .f32).view.WordExact} {hdst : (inM : Memref sig .tc .vmem S2x8x8x64 .f32).view.WordExact}
    {hsem : DmaTarget.Typed .vmem (.dma gotS) (.remote (Dev.tc n : Thread nD τ) (inM : Memref sig .tc .vmem S2x8x8x64 .f32) (.dma sentS) hsc)}
    {α : Type} {Q : α → sProp 𝕄} {k : PUnit → Prog (TpuEff nD τ sig (Elt F) Λ₀ .tc) α}
    (f : (cc0_scratch3 : Ref sig .tc).ty.Contents (Elt F)) (W : Waits sig Unit) :
    iprop(cellInv EX (plan m) (K (c, 1)) (sentCell c) ∗ cellInv EX (plan m) (K (partner c, 2)) (gotCell (partner c))
        ∗ held cc0_scratch2 c (packed m c) ∗ held cc0_scratch3 (partner c) f
        ∗ owes (c : Thread nD τ) (debt₁ c) W
        ∗ dutyTok EX (sentCell c) 0 () ∗ reached EX (sentCell c) 0
        ∗ dutyTok EX (gotCell (partner c)) 0 () ∗ reached EX (gotCell (partner c)) 0)
      ⊢ iprop(((cred (tallyAt (sentCell c) () bytes) ∗ owes (c : Thread nD τ) 0 W) -∗ wp frame (wpE (defs₀ (F := F)) noVariants (c : Thread nD τ) none) Set.univ (k ⟨⟩) Q)
          -∗ wp frame (wpE (defs₀ (F := F)) noVariants (c : Thread nD τ) none) Set.univ
              (.op (.enqueueDma outM (.remote (Dev.tc n : Thread nD τ) inM (.dma sentS) hsc) (.dma gotS) hsrc hdst hsem) k) Q) := by
  subst hn
  unfold held debt₁
  have left : ((outM : Memref sig .tc .vmem S2x8x8x64 .f32).view.loc (c : Thread nD τ) ↦[(outM : Memref sig .tc .vmem S2x8x8x64 .f32).view.set]{fullShare}
        (packed m c : Buf (Elt F) ((outM : Memref sig .tc .vmem S2x8x8x64 .f32).view.loc (c : Thread nD τ))) : sProp 𝕄)
      ⊢ (plan (F := F) m).payload (sentCell c) 0 () := by
    rw [payload_sent]; exact BI.Entails.refl _
  have arrived : ((inM : Memref sig .tc .vmem S2x8x8x64 .f32).view.loc (partner c : Thread nD τ) ↦[(inM : Memref sig .tc .vmem S2x8x8x64 .f32).view.set]{fullShare}
        ((inM : Memref sig .tc .vmem S2x8x8x64 .f32).view.write (Elt F) f ((outM : Memref sig .tc .vmem S2x8x8x64 .f32).view.read (Elt F) (packed m c)) Finset.univ
          : Buf (Elt F) ((inM : Memref sig .tc .vmem S2x8x8x64 .f32).view.loc (partner c : Thread nD τ))) : sProp 𝕄)
      ⊢ (plan (F := F) m).payload (gotCell (partner c)) 0 () := by
    rw [payload_got, landed]; unfold gotPay held; rw [partner_partner]
  have h := Rounds.wp_send_pointsTo (hsc := hsc) (hsrc := hsrc) (hdst := hdst) (hsem := hsem) (k := k) (Q := Q) (defs := defs₀ (F := F))
    (Es := Set.univ) (Γ := PendingWaitsCtx.empty) noVariants EX (plan m) (c : Thread nD τ) none (κ₁ := K (c, 1)) (κ₂ := K (partner c, 2))
    (r₁ := 0) (r₂ := 0) (d₁ := ()) (d₂ := ()) (fd := f)
    (by rw [duties_sent]; exact Finset.mem_singleton_self _) (by rw [duties_got]; exact Finset.mem_singleton_self _)
    () () bytes rfl (amount_sent m c) (amount_got m (partner c)) 0 (by rw [zero_add]) (W := W) left arrived
  exact h

set_option maxHeartbeats 1600000 in
theorem exchange (c : Dev nD) (i : grid0.Coords) (h3 : k0_cond3 i = 1#1)
    (M0 : Memref sig .tc .vmem S8x1x8x64 .f32) (hM0 : M0.IsWhole) (M1 : Memref sig .tc .vmem S8x64x8x64 .f32) (hM1 : M1.IsWhole)
    (M2 : Memref sig .tc .vmem S8x64x8x64 .f32) (hM2 : M2.IsWhole) (M3 : Memref sig .tc .vmem S8x1x8x64 .f32) (hM3 : M3.IsWhole)
    (X : Vec F S8x1x8x64 .f32) (W : Waits sig Unit) (Q : PUnit → sProp 𝕄) :
    iprop(ready m c ∗ sums m c 8 ∗ spare c ∗ owes (c : Thread nD τ) (debt c) W ∗ owns (c : Thread nD τ) M3 fullShare X
        ∗ (over c ∗ sums m c 8 ∗ spare c ∗ (∃ W', owes (c : Thread nD τ) 0 W') ∗ owns (c : Thread nD τ) M3 fullShare (result m c) -∗ Q ⟨⟩))
      ⊢ wp frame (wpE (defs₀ (F := F)) noVariants (c : Thread nD τ) none) Set.univ
          (k0_part2 i M0 hM0 M1 hM1 M2 hM2 M3 hM3
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 h3
            >>= fun _ => Prog.ret PUnit.unit) Q := by
  rw [k0_part2_eq_skeleton]; unfold k0_part2_skel
  rw [k0_part1_eq_skeleton]; unfold k0_part1_skel
  simp only [semSignalWord, semWaitWord, Prog.lift, Prog.bind_op, Prog.bind_ret, Prog.pure_eq_ret, wp_deviceId]
  unfold ready rights known sums spare
  iintro ⟨⟨⟨%K, ⟨#Ig, #Is, #Ir, #Igp, #Irp⟩, ⟨Ag, As, Ar⟩, ⟨#Rgp, #Rrp, #Rs, #Rr⟩, Tgp, Trp, Ts⟩, Cg, Cr, #Hlev⟩,
    ⟨%O, %S, %hOS, HA, HL⟩, ⟨⟨%f2, H2⟩, %f3, H3⟩, HO, Hout, Hk⟩
  obtain ⟨rfl, rfl⟩ := hOS (by decide)
  simp only [signalled_eq i h3 c]
  -- signal the partner's barrier, handing over the own landing buffer
  iapply (Rounds.wp_signal noVariants EX (plan m) (c : Thread nD τ) none (dst := (partner c : Thread nD τ)) (κ := K (partner c, 0))
      (d := ()) (by rw [duties_gate]; exact Finset.mem_singleton_self _) ((amount_gate m (partner c)).trans (by decide)) () (debt₁ c) rfl)
    $$ [HO Tgp H3]
  · isplitr; · iexact Igp
    isplitl [HO]; · iexact HO
    isplitl [Tgp]; · iexact Tgp
    isplitl [H3]
    · rw [payload_gate]; unfold gatePay; rw [partner_partner]
      isplitl [H3]; · iexists f3; iexact H3
      iexact Rr
    iexact Rgp
  iintro HO
  -- wait for the partner's signal, which brings the partner's landing buffer
  iapply (Rounds.wp_wait_rest_token noVariants EX (plan m) (c : Thread nD τ) none (κ := K (c, 0))
      (wpE_semWait_eq noVariants (c : Thread nD τ) none Set.univ) (Set.mem_univ _) () (O := debt₁ c) (W := W) (R := 0) (m := 0) (T := ∅)
      (by rw [expect_gate]; decide)) $$ [Cg HO Ag]
  · isplitr; · iexact Ig
    isplitl [Cg]; · iexact Cg
    isplitl [HO]; · iexact HO
    isplitr; · iapply (mayWait_gate c); iexact Hlev
    iexact Ag
  iintro ⟨HO, Ag, -, Hpay⟩
  ihave Hp := (Entails.of_eq (rest_gate m c)) $$ Hpay
  unfold gatePay
  icases Hp with ⟨⟨%fp, Hp⟩, -⟩
  -- pack the sums
  ihave HA := owns_of_held c cc0_scratch0 _ $$ HA
  ihave HL := owns_of_held c cc0_scratch1 _ $$ HL
  ihave H2 := owns_of_held c cc0_scratch2 _ $$ H2
  iapply (load_owned c (Memref.whole cc0_scratch0) _ _) $$ HA; iintro HA
  iapply (load_row c (Memref.whole cc0_scratch2) _ _) $$ H2; iintro H2
  iapply (store_row c (Memref.whole cc0_scratch2) _ _ _) $$ H2; iintro H2
  iapply (load_owned c (Memref.whole cc0_scratch1) _ _) $$ HL; iintro HL
  iapply (load_row c (Memref.whole cc0_scratch2) _ _) $$ H2; iintro H2
  iapply (store_row c (Memref.whole cc0_scratch2) _ _ _) $$ H2; iintro H2
  ihave H2 := held_of_owns c cc0_scratch2 _ $$ H2
  ihave H2 := (Entails.of_eq (congrArg (held cc0_scratch2 c) (put_rows f2 _ (k0_pay8 (accO m c (8 - 1))) (k0_pay9 (accL m c (8 - 1)))))) $$ H2
  -- copy them to the partner
  iapply (send_packed m K c _ (addressed_eq i h3 c) fp (insert (SemLoc.reg gate, ()) W)) $$ [H2 Hp HO Ts Trp]
  · isplitr; · iexact Is
    isplitr; · iexact Irp
    isplitl [H2]; · iexact H2
    isplitl [Hp]; · iexact Hp
    isplitl [HO]; · iexact HO
    isplitl [Ts]; · iexact Ts
    isplitr; · iexact Rs
    isplitl [Trp]; · iexact Trp
    iexact Rrp
  iintro ⟨Cs, HO⟩
  -- wait for the copy to have left, then for the partner's to have landed
  iapply (Rounds.wp_wait_rest_token noVariants EX (plan m) (c : Thread nD τ) none (κ := K (c, 1))
      (wpE_waitDma2_eq noVariants (c : Thread nD τ) none Set.univ) (Set.mem_univ _) () (O := 0) (W := insert (SemLoc.reg gate, ()) W) (R := 0) (m := 0) (T := ∅)
      (by rw [Nat.zero_add, expect_sent])) $$ [Cs HO As]
  · isplitr; · iexact Is
    isplitl [Cs]; · iexact Cs
    isplitl [HO]; · iexact HO
    isplitr; · rw [MayWait_zero]; iempintro
    iexact As
  iintro ⟨HO, As, -, Hpay⟩
  ihave H2 := (Entails.of_eq (rest_sent m c)) $$ Hpay
  unfold sentPay
  iapply (Rounds.wp_wait_rest_token noVariants EX (plan m) (c : Thread nD τ) none (κ := K (c, 2))
      (wpE_waitDma2_eq noVariants (c : Thread nD τ) none Set.univ) (Set.mem_univ _) () (O := 0)
      (W := insert (SemLoc.dma sentS, ()) (insert (SemLoc.reg gate, ()) W)) (R := 0) (m := 0) (T := ∅)
      (by rw [Nat.zero_add, expect_got])) $$ [Cr HO Ar]
  · isplitr; · iexact Ir
    isplitl [Cr]; · iexact Cr
    isplitl [HO]; · iexact HO
    isplitr; · rw [MayWait_zero]; iempintro
    iexact Ar
  iintro ⟨HO, Ar, -, Hpay⟩
  ihave H3 := (Entails.of_eq (rest_got m c)) $$ Hpay
  unfold gotPay
  -- the three cells close
  imod (Rounds.cell_close EX (plan m) (Set.mem_univ (K (c, 1))) (fun h => h) (R := 0 + 1) (duties_after m (sentCell c))) $$ [As] with Zs
  · isplitr; · iexact Is
    iexact As
  imod (Rounds.cell_close EX (plan m) (Set.mem_univ (K (c, 2))) (fun h => h) (R := 0 + 1) (duties_after m (gotCell c))) $$ [Ar] with Zr
  · isplitr; · iexact Ir
    iexact Ar
  imod (Rounds.cell_close EX (plan m) (Set.mem_univ (K (c, 0))) (fun h => h) (R := 0 + 1) (duties_after m (gateCell c))) $$ [Ag] with Zg
  · isplitr; · iexact Ig
    iexact Ag
  -- divide
  ihave H2 := owns_of_held c cc0_scratch2 _ $$ H2
  ihave H3 := owns_of_held c cc0_scratch3 _ $$ H3
  iapply (load_row c (Memref.whole cc0_scratch2) _ _) $$ H2; iintro H2
  iapply (load_row c (Memref.whole cc0_scratch3) _ _) $$ H3; iintro H3
  iapply (load_row c (Memref.whole cc0_scratch2) _ _) $$ H2; iintro H2
  iapply (load_row c (Memref.whole cc0_scratch3) _ _) $$ H3; iintro H3
  iapply (load_owned c M3 _ _) $$ Hout; iintro Hout
  iapply (store_owned c M3 _ _ _) $$ Hout; iintro Hout
  unfold packed
  rw [row0_pack, row0_pack, row1_pack, row1_pack, wp_ret]
  imodintro
  iapply Hk
  ihave H2 := held_of_owns c cc0_scratch2 _ $$ H2
  ihave H3 := held_of_owns c cc0_scratch3 _ $$ H3
  ihave HA := held_of_owns c cc0_scratch0 _ $$ HA
  ihave HL := held_of_owns c cc0_scratch1 _ $$ HL
  unfold over
  isplitl [Zs Zr Zg]
  · isplitl [Zs]; · iexact Zs
    isplitl [Zr] <;> iassumption
  isplitl [HA HL]
  · iexists _, _
    isplitr; · (ipureintro; exact fun _ => ⟨rfl, rfl⟩)
    isplitl [HA] <;> iassumption
  isplitl [H2 H3]
  · isplitl [H2]
    · iexists _; iexact H2
    · iexists _; iexact H3
  isplitl [HO]
  · iexists _; iexact HO
  iexact Hout

/-! ## The obligation of every grid point -/

/-- The output block is left alone before the last point, -/
theorem out_idle : ∀ t : Fin cfg0.N, t.val ≠ 7 → cfg0.idle 3 (cfg0.grid.coords t) = true ∧ (cfg0.win 3).flush t = false := by
  decide +kernel
/-- and stored at it. -/
theorem out_busy : ∀ t : Fin cfg0.N, t.val = 7 → cfg0.idle 3 (cfg0.grid.coords t) = false := by
  decide +kernel

/-- The state before point `t`: the invariant, the debt, the three input blocks staged and the output block at anything. -/
def before (c : Dev nD) (t : Fin cfg0.N) : sProp 𝕄 :=
  iprop(carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the input windows and the invariant become, with `R` for the output window. -/
def afterwards (c : Dev nD) (t : Fin cfg0.N) (R : sProp 𝕄) : sProp 𝕄 :=
  iprop(carry m c (t.val + 1) ∗ (dats m 0 c).owesAt () t.succ
    ∗ owns (c : Thread nD τ) (st0_0 t) fullShare (qAt m c t)
    ∗ owns (c : Thread nD τ) (st0_1 t) fullShare (kAt m c t)
    ∗ owns (c : Thread nD τ) (st0_2 t) fullShare (vAt m c t) ∗ R)

/-- A point before the last, run. -/
theorem run_early (c : Dev nD) (t : Fin cfg0.N) (h : t.val ≠ 7) :
    before m c t ⊢ wp frame (wpE (defs₀ (F := F)) noVariants (c : Thread nD τ) none) Set.univ (bodyAt0 t)
      fun _ => afterwards m c t iprop(∃ d, owns (c : Thread nD τ) (st0_3 t) fullShare ((dats m 0 c).before 3 t d)) := by
  have ht : t.val < 8 := lt_of_lt_of_eq t.isLt N_0
  have run : ∀ Q : PUnit → sProp 𝕄, iprop(staged m c t ∗ sums m c t.val ∗ (staged m c t ∗ sums m c (t.val + 1) -∗ Q ⟨⟩))
      ⊢ wp frame (wpE (defs₀ (F := F)) noVariants (c : Thread nD τ) none) Set.univ (bodyAt0 t) Q := by
    by_cases h0 : t.val = 0
    · exact first_point m c t h0
    · exact middle_point m c t h0 h
  unfold before afterwards Dat.owesAt
  rw [carry_before m c t.val ht, carry_before m c (t.val + 1) (by omega),
    show (dats m 0 c).owed t.castSucc = debt c from owedAt_before c t.val ht,
    show (dats m 0 c).owed t.succ = debt c from owedAt_before c (t.val + 1) (by omega)]
  iintro ⟨⟨Hr, Hs, Hsp⟩, Ho, ⟨%d0, Hq⟩, ⟨%d1, Hk⟩, ⟨%d2, Hv⟩, Hout⟩
  rw [before_q, before_k, before_v]
  iapply (run _)
  unfold staged
  isplitl [Hq Hk Hv]
  · isplitl [Hq]; · iexact Hq
    isplitl [Hk]; · iexact Hk
    iexact Hv
  isplitl [Hs]; · iexact Hs
  iintro ⟨⟨Hq, Hk, Hv⟩, Hs⟩
  isplitl [Hr Hs Hsp]
  · isplitl [Hr]; · iexact Hr
    isplitl [Hs]; · iexact Hs
    iexact Hsp
  isplitl [Ho]; · iexact Ho
  isplitl [Hq]; · iexact Hq
  isplitl [Hk]; · iexact Hk
  isplitl [Hv]; · iexact Hv
  iexact Hout

/-- The last point, run. -/
theorem run_last (c : Dev nD) (t : Fin cfg0.N) (h : t.val = 7) :
    before m c t ⊢ wp frame (wpE (defs₀ (F := F)) noVariants (c : Thread nD τ) none) Set.univ (bodyAt0 t)
      fun _ => afterwards m c t (owns (c : Thread nD τ) (st0_3 t) fullShare (result m c)) := by
  unfold before afterwards Dat.owesAt
  rw [carry_before m c t.val (by omega), show t.val + 1 = 8 by omega, carry_end,
    show (dats m 0 c).owed t.castSucc = debt c from owedAt_before c t.val (by omega),
    show (dats m 0 c).owed t.succ = 0 from (congrArg (owedAt c) (show t.val + 1 = 8 by omega)).trans (owedAt_end c)]
  iintro ⟨⟨Hr, Hs, Hsp⟩, Ho, ⟨%d0, Hq⟩, ⟨%d1, Hk⟩, ⟨%d2, Hv⟩, ⟨%d3, Hout⟩⟩
  rw [before_q, before_k, before_v]
  iapply (later_point m c t (by omega) _)
  unfold staged
  isplitl [Hq Hk Hv]
  · isplitl [Hq]; · iexact Hq
    isplitl [Hk]; · iexact Hk
    iexact Hv
  isplitl [Hs]; · iexact Hs
  iintro ⟨⟨Hq, Hk, Hv⟩, Hs⟩
  rw [dif_pos ((at_last t).2 h), show t.val + 1 = 8 by omega]
  unfold Pipeline.owesWithin
  icases Ho with ⟨%W, -, HO⟩
  iapply (exchange m c (grid0.coords t) ((at_last t).2 h) (st0_0 t) _ (st0_1 t) _ (st0_2 t) _ (st0_3 t) _ _ W _)
  isplitl [Hr]; · iexact Hr
  isplitl [Hs]; · iexact Hs
  isplitl [Hsp]; · iexact Hsp
  isplitl [HO]; · iexact HO
  isplitl [Hout]; · iexact Hout
  iintro ⟨Hov, Hs, Hsp, ⟨%W', HO⟩, Hout⟩
  isplitl [Hov Hs Hsp]
  · isplitl [Hov]; · iexact Hov
    isplitl [Hs]; · iexact Hs
    iexact Hsp
  isplitl [HO]
  · iexists W'
    isplitr; · (ipureintro; exact fun _ _ => Or.inl trivial)
    iexact HO
  isplitl [Hq]; · iexact Hq
  isplitl [Hk]; · iexact Hk
  isplitl [Hv]; · iexact Hv
  iexact Hout

theorem body_obligation (c : Dev nD) : BodyObligation (dats (F := F) m 0 c) (defs₀ (F := F)) noVariants () Set.univ := fun t => by
  rw [bigSep_W0, bigSep_W0]
  by_cases h : t.val = 7
  · rw [out_busy t h]
    exact run_last m c t h
  · rw [(out_idle t h).1, (out_idle t h).2]
    exact run_early m c t h

end Cert.KernelIdealExchange

end
-- ==== Proof.KernelIdealLaunch.lean ====
/-
# From the grid points to the whole run

The semaphores of every device become cells of the exchange, their payment rights go to the devices that
pay, and the launch credits each device with what its partner owes it. With the obligation of every grid
point this gives the run of the program: it ends, every array holds what the grid points leave in it, and
every semaphore is back at zero.
-/
module

public import proofs.«01_k».proof.Proof.KernelIdealBody
public import Idealize.ShloMosaic.Lib.Pipeline.CollectiveSegs

@[expose] public section

set_option maxRecDepth 16384

noncomputable section

namespace Cert.KernelIdealExchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## Cells and payment rights -/

/-- The kernel's own semaphores are its two copy semaphores. -/
theorem ownSemFacts : Pipeline.OwnSemFacts cfg0.spec ownS := by decide

theorem share_full (c : Dev nD) (w : Fin cfg0.W) : (dats m 0 c).share w = fullShare := by unfold Dat.share; split <;> rfl

theorem cellAt_injective : Function.Injective (cellAt : Dev nD × Fin 3 → GSem nD τ sig) := fun ⟨c, k⟩ ⟨c', k'⟩ h => by
  obtain rfl : c = c' := congrArg (fun g : GSem nD τ sig => g.1.1) h
  have hs : allS k = allS k' := congrArg Prod.snd h
  obtain rfl : k = k' := by fin_cases k <;> fin_cases k' <;> first | rfl | exact absurd hs (by decide)
  rfl

def exchangeCells : Finset (GSem nD τ sig) := Finset.univ.map ⟨cellAt, cellAt_injective⟩

/-- The one payment of every cell. -/
abbrev payAt (x : Dev nD × Fin 3) : GSem nD τ sig × ℕ × Unit := (cellAt x, 0, ())
theorem payAt_injective : Function.Injective (payAt : Dev nD × Fin 3 → GSem nD τ sig × ℕ × Unit) :=
  fun _ _ h => cellAt_injective (congrArg Prod.fst h)
def exchangePays : Finset (GSem nD τ sig × ℕ × Unit) := Finset.univ.map ⟨payAt, payAt_injective⟩

/-- The ghost state of the launch. -/
def u₀ : Ghost := (initOf (Pipeline.cells cfgs cellOf_inj) (Pipeline.launchToks cfgs cellOf_inj), initOf exchangeCells exchangePays)

theorem three (Φ : Fin 3 → sProp 𝕄) : bigSep Finset.univ Φ = iprop(Φ 0 ∗ Φ 1 ∗ Φ 2) :=
  bigSep_univ_eq_bigSepL [0, 1, 2] (by decide) (by decide) Φ

/-- What a device is dealt: its cells unopened, its place in each, and the payment rights of its own cells. -/
def dealt (c : Dev nD) : sProp 𝕄 :=
  iprop((bigSep Finset.univ fun k : Fin 3 => roundState EX (plan m) (cellAt (c, k)) 0)
    ∗ (bigSep Finset.univ fun k : Fin 3 => iprop(atPos EX (cellAt (c, k)) 0 ∅ 0 ∗ reached EX (cellAt (c, k)) 0))
    ∗ bigSep Finset.univ fun k : Fin 3 => dutyTok EX (cellAt (c, k)) 0 ())

/-- What it holds once the cells are open and the rights have gone to the payers. -/
def armed (c : Dev nD) : sProp 𝕄 := iprop(∃ K, rights m K c)

theorem deal : BI.own (EX (initOf exchangeCells exchangePays)) ⊢ (|==> bigSep Finset.univ (dealt m) : sProp 𝕄) := by
  have split (Φ : GSem nD τ sig → sProp 𝕄) : bigSep exchangeCells Φ = bigSep Finset.univ fun c : Dev nD => bigSep Finset.univ fun k : Fin 3 => Φ (cellAt (c, k)) := by
    unfold exchangeCells; rw [bigSep_map, bigSep_univ_prod]; rfl
  have splitPays : bigSep exchangePays (fun x => (dutyTok EX x.1 x.2.1 x.2.2 : sProp 𝕄))
      = bigSep Finset.univ fun c : Dev nD => bigSep Finset.univ fun k : Fin 3 => dutyTok EX (cellAt (c, k)) 0 () := by
    unfold exchangePays; rw [bigSep_map, bigSep_univ_prod]; rfl
  iintro H
  imod (Rounds.fund EX (plan m) exchangeCells exchangePays) $$ H with ⟨Hst, Hre, Hat, Htok⟩
  imodintro
  ihave Hst := (Entails.of_eq (split fun g => roundState EX (plan m) g 0)) $$ Hst
  ihave Hat := (Entails.of_eq (split fun g => atPos EX g 0 ∅ 0)) $$ Hat
  ihave Hre := (Entails.of_eq (split fun g => reached EX g 0)) $$ Hre
  ihave Htok := (Entails.of_eq splitPays) $$ Htok
  unfold dealt; simp only [bigSep_sep']
  isplitl [Hst]; · iexact Hst
  isplitl [Hat Hre]
  · isplitl [Hat] <;> iassumption
  iexact Htok

/-! ## Opening the cells -/

theorem own_sems (c : Dev nD) : (Pipeline.ownSems0 (Ix := Unit) (Name := ℕ) (U := Ghost) (Lvl := ℕ) (Val := Elt F) (τ := τ) ownS c : sProp 𝕄)
    = iprop(semVal (sentCell c) 0 ∗ semVal (gotCell c) 0) := by
  rw [Pipeline.ownSems0_eq_of_list c ownS [0, 1] (by decide) (by decide)]; rfl
/-- The barrier semaphore outlives the kernel. -/
theorem other_sems (c : Dev nD) : (unscopedSems0 c : sProp 𝕄) = semVal (gateCell c) 0 := by
  unfold unscopedSems0; rw [bigSep_eq_bigSepL_of_eq [SemLoc.reg gate] (by decide) (by decide)]; rfl

theorem open_cells (c : Dev nD) :
    iprop(Pipeline.ownSems0 (Ix := Unit) (Name := ℕ) (U := Ghost) (Lvl := ℕ) (Val := Elt F) (τ := τ) ownS c ∗ unscopedSems0 c ∗ dealt m c)
      ⊢ |={Set.univ}=> iprop((bigSep Finset.univ fun k => iprop(∃ κ : ℕ, cellInv EX (plan m) κ (cellAt (c, k))))
          ∗ (bigSep Finset.univ fun k => iprop(atPos EX (cellAt (c, k)) 0 ∅ 0 ∗ reached EX (cellAt (c, k)) 0))
          ∗ bigSep Finset.univ fun k : Fin 3 => dutyTok EX (cellAt (c, k)) 0 ()) := by
  have alloc : iprop((bigSep Finset.univ fun k : Fin 3 => semVal (cellAt (c, k)) 0) ∗ bigSep Finset.univ fun k : Fin 3 => roundState EX (plan m) (cellAt (c, k)) 0)
      ⊢ (|={Set.univ}=> bigSep Finset.univ fun k => iprop(∃ κ : ℕ, cellInv EX (plan m) κ (cellAt (c, k))) : sProp 𝕄) := by
    rw [← bigSep_sep']
    exact (bigSep_mono fun k _ => (Rounds.body_intro EX (plan m) (cellAt (c, k))).trans inv_alloc).trans (bigSep_fupd _ _)
  unfold dealt
  rw [own_sems, other_sems]
  iintro ⟨⟨Hs, Hr⟩, Hg, Hst, Hat, Htok⟩
  imod alloc $$ [Hs Hr Hg Hst] with Hinv
  · isplitl [Hs Hr Hg]
    · rw [three]
      isplitl [Hg]; · iexact Hg
      isplitl [Hs] <;> iassumption
    · iexact Hst
  imodintro
  isplitl [Hinv]; · iexact Hinv
  isplitl [Hat] <;> iassumption

/-- The part every device may share: all the cell invariants and round marks. -/
def shared (K : Dev nD × Fin 3 → ℕ) : sProp 𝕄 :=
  iprop((bigSep Finset.univ fun x : Dev nD × Fin 3 => cellInv EX (plan m) (K x) (cellAt x))
    ∗ bigSep Finset.univ fun x : Dev nD × Fin 3 => reached EX (cellAt x) 0)

instance shared_persistent (K : Dev nD × Fin 3 → ℕ) : BI.Persistent (shared m K) := by unfold shared; infer_instance

theorem shared_inv (K : Dev nD × Fin 3 → ℕ) (x : Dev nD × Fin 3) : shared m K ⊢ cellInv EX (plan m) (K x) (cellAt x) := by
  unfold shared
  iintro ⟨H, -⟩
  iapply (show (bigSep Finset.univ fun x : Dev nD × Fin 3 => (cellInv EX (plan m) (K x) (cellAt x) : sProp 𝕄)) ⊢ _ from bigSep_elim (Finset.mem_univ x))
  iexact H
theorem shared_reached (K : Dev nD × Fin 3 → ℕ) (x : Dev nD × Fin 3) : shared m K ⊢ (reached EX (cellAt x) 0 : sProp 𝕄) := by
  unfold shared
  iintro ⟨-, H⟩
  iapply (show (bigSep Finset.univ fun x : Dev nD × Fin 3 => (reached EX (cellAt x) 0 : sProp 𝕄)) ⊢ _ from bigSep_elim (Finset.mem_univ x))
  iexact H

/-- The rights to pay, with the payers: two of the partner's cells and the own sent cell. -/
def payer (c : Dev nD) : sProp 𝕄 :=
  iprop(dutyTok EX (gateCell (partner c)) 0 () ∗ dutyTok EX (gotCell (partner c)) 0 () ∗ dutyTok EX (sentCell c) 0 ())
/-- The part only device `c` holds. -/
def alone (c : Dev nD) : sProp 𝕄 := iprop((bigSep Finset.univ fun k : Fin 3 => atPos EX (cellAt (c, k)) 0 ∅ 0) ∗ payer c)

theorem arm (K : Dev nD × Fin 3 → ℕ) (c : Dev nD) : iprop(shared m K ∗ alone c) ⊢ armed m c := by
  unfold alone payer armed rights known
  rw [three]
  iintro ⟨#H, Hat, Ht1, Ht2, Ht3⟩
  iexists K
  isplitr
  · isplitr; · iapply (shared_inv m K (c, 0)); iexact H
    isplitr; · iapply (shared_inv m K (c, 1)); iexact H
    isplitr; · iapply (shared_inv m K (c, 2)); iexact H
    isplitr; · iapply (shared_inv m K (partner c, 0)); iexact H
    iapply (shared_inv m K (partner c, 2)); iexact H
  isplitl [Hat]; · iexact Hat
  isplitr
  · isplitr; · iapply (shared_reached m K (partner c, 0)); iexact H
    isplitr; · iapply (shared_reached m K (partner c, 2)); iexact H
    isplitr; · iapply (shared_reached m K (c, 1)); iexact H
    iapply (shared_reached m K (c, 2)); iexact H
  isplitl [Ht1]; · iexact Ht1
  isplitl [Ht2] <;> iassumption

/-- Partners swap the rights to pay their barriers and receive cells. -/
theorem hand_over : (bigSep Finset.univ fun c : Dev nD => bigSep Finset.univ fun k : Fin 3 => (dutyTok EX (cellAt (c, k)) 0 () : sProp 𝕄))
    ⊢ bigSep Finset.univ fun c : Dev nD => payer c := by
  simp only [three]
  unfold payer
  rw [bigSep_sep', bigSep_sep', bigSep_sep', bigSep_sep',
    bigSep_univ_equiv swap (fun c : Dev nD => (dutyTok EX (cellAt (c, 0)) 0 () : sProp 𝕄)),
    bigSep_univ_equiv swap (fun c : Dev nD => (dutyTok EX (cellAt (c, 2)) 0 () : sProp 𝕄))]
  iintro ⟨H1, H2, H3⟩
  isplitl [H1]; · iexact H1
  isplitl [H3]; · iexact H3
  iexact H2

/-- A persistent fact goes along with every member of a separating conjunction. -/
theorem spread {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ :=
  (sep_mono_left (BI.bigSep_of_persistent S R)).trans ((Entails.of_eq (bigSep_sep' S (fun _ => R) Φ).symm).trans (bigSep_mono fun i _ => h i))

theorem arm_all :
    (bigSep Finset.univ fun c : Dev nD => iprop((bigSep Finset.univ fun k => iprop(∃ κ : ℕ, cellInv EX (plan m) κ (cellAt (c, k))))
          ∗ (bigSep Finset.univ fun k => iprop(atPos EX (cellAt (c, k)) 0 ∅ 0 ∗ reached EX (cellAt (c, k)) 0))
          ∗ bigSep Finset.univ fun k : Fin 3 => dutyTok EX (cellAt (c, k)) 0 ()) : sProp 𝕄)
      ⊢ bigSep Finset.univ (armed m) := by
  simp only [bigSep_sep']
  rw [← bigSep_univ_prod (fun x : Dev nD × Fin 3 => iprop(∃ κ : ℕ, cellInv EX (plan m) κ (cellAt x))),
    ← bigSep_univ_prod (fun x : Dev nD × Fin 3 => (reached EX (cellAt x) 0 : sProp 𝕄))]
  iintro ⟨HI, ⟨Hat, #HR⟩, Htok⟩
  ihave HK := (BI.bigSep_exists_pi Finset.univ (fun (x : Dev nD × Fin 3) (κ : ℕ) => (cellInv EX (plan m) κ (cellAt x) : sProp 𝕄))) $$ HI
  icases HK with ⟨%K, #HI⟩
  ihave Hp := (hand_over (F := F)) $$ Htok
  iapply (spread (R := shared m K) fun c => arm m K c)
  isplitr
  · unfold shared
    isplitr; · iexact HI
    iexact HR
  · unfold alone
    rw [bigSep_sep']
    isplitl [Hat] <;> iassumption

theorem open_all : (bigSep Finset.univ fun c => iprop(Pipeline.ownSems0 (Ix := Unit) (Name := ℕ) (U := Ghost) (Lvl := ℕ) (Val := Elt F) (τ := τ) ownS c
      ∗ unscopedSems0 c ∗ dealt m c) : sProp 𝕄)
    ⊢ |={Set.univ}=> bigSep Finset.univ (armed m) :=
  ((bigSep_mono fun c _ => open_cells m c).trans (bigSep_fupd _ _)).trans (BI.fupd_mono (arm_all m))

/-! ## The credit of the launch -/

theorem gate_at {a b : Dev nD} (h : gateCell a = gateCell b) : a = b := congrArg (fun g : GSem nD τ sig => g.1.1) h
theorem got_at {a b : Dev nD} (h : gotCell a = gotCell b) : a = b := congrArg (fun g : GSem nD τ sig => g.1.1) h

/-- Only the partner owes a device's barrier, one unit, -/
theorem debt_gate (d c : Dev nD) : debt d (gateCell c) () = if d = partner c then 1 else 0 := by
  unfold debt debt₁
  rw [Pi.add_apply, Finsupp.add_apply, tallyAt_ne_cell (fun h => got_ne_gate (congrArg Prod.snd h).symm), tallyAt_apply, Finsupp.zero_apply, Nat.zero_add]
  by_cases h : d = partner c
  · subst h; rw [partner_partner, if_pos ⟨rfl, rfl⟩, if_pos rfl]
  · rw [if_neg h, if_neg (fun ⟨h1, _⟩ => h (by rw [gate_at h1, partner_partner]))]
/-- and its receive cell, the copy. -/
theorem debt_got (d c : Dev nD) : debt d (gotCell c) () = if d = partner c then bytes else 0 := by
  unfold debt debt₁
  rw [Pi.add_apply, Finsupp.add_apply, tallyAt_apply, tallyAt_ne_cell (fun h => got_ne_gate (congrArg Prod.snd h)), Finsupp.zero_apply, Nat.add_zero]
  by_cases h : d = partner c
  · subst h; rw [partner_partner, if_pos ⟨rfl, rfl⟩, if_pos rfl]
  · rw [if_neg h, if_neg (fun ⟨h1, _⟩ => h (by rw [got_at h1, partner_partner]))]

theorem credit_gate (c : Dev nD) :
    tallyOn (gateCell c) (launchCredit (Pipeline.owing debt) 0 (gateCell c)) = (tallyAt (gateCell c) () 1 : CellTallies nD τ sig Unit) := by
  unfold tallyAt
  refine congrArg _ (Finsupp.ext fun u => ?_)
  cases u
  rw [Pipeline.launchCredit_owing, Finsupp.single_eq_same, Finset.sum_congr rfl fun d _ => debt_gate d c,
    Finset.sum_ite_eq' Finset.univ (partner c) fun _ => 1, if_pos (Finset.mem_univ _)]
theorem credit_got (c : Dev nD) :
    tallyOn (gotCell c) (launchCredit (Pipeline.owing debt) 0 (gotCell c)) = (tallyAt (gotCell c) () bytes : CellTallies nD τ sig Unit) := by
  unfold tallyAt
  refine congrArg _ (Finsupp.ext fun u => ?_)
  cases u
  rw [Pipeline.launchCredit_owing, Finsupp.single_eq_same, Finset.sum_congr rfl fun d _ => debt_got d c,
    Finset.sum_ite_eq' Finset.univ (partner c) fun _ => bytes, if_pos (Finset.mem_univ _)]

theorem credits (c : Dev nD) :
    (Pipeline.launchCred debt c : sProp 𝕄) ⊢ iprop(cred (tallyAt (gateCell c) () 1) ∗ cred (tallyAt (gotCell c) () bytes)) := by
  unfold Pipeline.launchCred
  rw [bigSep_univ_at _ (SemLoc.reg gate), credit_gate]
  refine sep_mono_right ?_
  rw [← credit_got]
  exact bigSep_elim (Finset.mem_erase.mpr ⟨got_ne_gate, Finset.mem_univ _⟩)

/-! ## Into the first point and out of the last -/

theorem enter (ρ : Dev nD → _) (c : Dev nD) :
    iprop(Pipeline.unscopedRestP Pipeline.Prefetch.none cfg0.spec c (fun b => m ((c : Thread nD τ).loc b)) ∗ levAts labels level
        ∗ Pipeline.launchCred debt c ∗ prngReg c (ρ c) ∗ armed m c)
      ⊢ |={Set.univ}=> iprop(ready m c ∗ emp) := by
  iintro ⟨-, Hlev, Hcr, -, HG⟩
  ihave Hc := (credits (F := F) c) $$ Hcr
  icases Hc with ⟨H1, H2⟩
  imodintro
  unfold ready armed
  isplitl
  · isplitl [HG]; · iexact HG
    isplitl [H1]; · iexact H1
    isplitl [H2] <;> iassumption
  · iempintro

theorem first_state (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = carry m c 0 from rfl, carry_before m c 0 (by decide), scopedRest0_eq]
  unfold sums spare
  simp only [held_eq]
  iintro ⟨Hr, -, ⟨%f0, H0⟩, ⟨%f1, H1⟩, H2, H3⟩
  isplitl [Hr]; · iexact Hr
  isplitl [H0 H1]
  · iexists f0, f1
    isplitr; · (ipureintro; exact fun h => absurd rfl h)
    isplitl [H0] <;> iassumption
  isplitl [H2] <;> iassumption

theorem last_state (c : Dev nD) :
    (dats m 0 c).Φ (Fin.last cfg0.N) ⊢ iprop(unscopedSems0 c ∗ Pipeline.ownSems0 ownS c ∗ Pipeline.scopedRest cfg0.spec c) := by
  rw [show (dats m 0 c).Φ (Fin.last cfg0.N) = carry m c 8 from congrArg (carry m c) N_0, carry_end, scopedRest0_eq, own_sems, other_sems]
  unfold over sums spare
  simp only [held_eq]
  iintro ⟨⟨Hs, Hr, Hg⟩, ⟨%O, %S, -, H0, H1⟩, H2, H3⟩
  isplitl [Hg]; · iexact Hg
  isplitl [Hs Hr]
  · isplitl [Hs] <;> iassumption
  isplitl [H0]; · iexists O; iexact H0
  isplitl [H1]; · iexists S; iexact H1
  isplitl [H2] <;> iassumption

theorem owedAt_cases (c : Dev nD) (n : ℕ) : owedAt c n = debt c ∨ owedAt c n = 0 := by
  by_cases h : n = 8
  · exact .inr (if_pos h)
  · exact .inl (if_neg h)

theorem waits (c : Dev nD) : (levAts labels level : sProp 𝕄) ⊢ Pipeline.cellsWaits cfgs (dats m) () 0 c :=
  Pipeline.cellsWaits_intro cfgs (dats m) () 0 c fun w s t =>
    mayWait_staging c _ (by fin_cases w <;> fin_cases s <;> decide) _ (owedAt_cases c t.val)

/-! ## The run -/

/-- From any memory with all counters at zero, the program ends, every array holds what its grid points leave in it, and
    every semaphore is back at zero. -/
theorem run_main (ρ : Dev nD → _) : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EPipe defs₀ noVariants m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := debt) (howed₀ := fun c => owedAt_before c 0 (by decide)) (howedN := fun c => (congrArg (owedAt c) N_0).trans (owedAt_end c))
    (L := labels) (lv := level) (hL := labels_of_ne) (hwaits := waits m)
    (G := dealt m) (G' := armed m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := open_all m)
    (hA := fun _ _ => rfl) (hpf := fun _ k => k.elim0)
    (X := ready m) (Y := fun c => unscopedSems0 c) (Z := fun _ => iprop(emp))
    (hX := enter m ρ) (hin := first_state m) (hout := last_state m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealExchange

end
-- ==== Proof.KernelIdealValue.lean ====
/-
# What the kernel computes, entry by entry

The result array of a device after the run (`final`), and its entry at batch `b`, head `h`, column `d`: the sums
over the device's own 512 rows and over its partner's 512 rows added, the weighted sum divided by the sum of weights.
-/
module

public import proofs.«01_k».proof.Proof.KernelIdealData
public import Idealize.ShloMosaic.Lib.Pointwise
public import Idealize.ShloMosaic.Lib.Pipeline.ValueKit

@[expose] public section

set_option maxRecDepth 16384

noncomputable section

namespace Cert.KernelIdealExchange

open Cert.KernelIdeal Cert.KernelIdeal.Gen
open Idealize.ShloMosaic Idealize.ShloMosaic.TcCoe
open Idealize.ShloMosaic.Pipeline (Dat)

/-! ## The payloads of one grid point at an index -/

section Payloads

variable (q : Vec Ideal S8x1x8x64 .f32) (k v : Vec Ideal S8x64x8x64 .f32) (b h : Fin 8) (d : Fin 64)

theorem weight_at (r : Fin 64) :
    k0_pay1 q k (ix3 b r h : S8x64x8.Idx) = Ideal.exp ((∑ x : Fin 64, q (ix4 b 0 h x) * k (ix4 b r h x)) * Ideal.ofBits .f32 0x3E000000#32) := by
  pointwise [k0_pay1]

theorem sumL_at : k0_pay2 q k (ix2 b h : S8x8.Idx) = ∑ r : Fin 64, k0_pay1 q k (ix3 b r h : S8x64x8.Idx) := by
  pointwise [k0_pay2]

theorem sumO_at : k0_pay3 q k v (ix3 b h d : S8x8x64.Idx) = ∑ r : Fin 64, k0_pay1 q k (ix3 b r h : S8x64x8.Idx) * v (ix4 b r h d) := by
  pointwise [k0_pay3]

theorem firstO_at : k0_pay4 q k v (ix3 b h d : S8x8x64.Idx) = k0_pay3 q k v (ix3 b h d) := by pointwise [k0_pay4]
theorem firstL_at : k0_pay5 q k (ix2 b h : S8x8.Idx) = k0_pay2 q k (ix2 b h) := by pointwise [k0_pay5]
theorem nextO_at (w : Vec Ideal S8x8x64 .f32) :
    k0_pay6 q k v w (ix3 b h d : S8x8x64.Idx) = (w (ix3 b h d) : EReal) + k0_pay3 q k v (ix3 b h d) := by pointwise [k0_pay6]
theorem nextL_at (w : Vec Ideal S8x8 .f32) :
    k0_pay7 q k w (ix2 b h : S8x8.Idx) = (w (ix2 b h) : EReal) + k0_pay2 q k (ix2 b h) := by pointwise [k0_pay7]

theorem quotient_at (w x : Vec Ideal S8x8x64 .f32) (y z : Vec Ideal S8x8 .f32) (u : Fin 1) :
    k0_pay10 (k0_pay8 w) (k0_pay8 x) (k0_pay9 y) (k0_pay9 z) (ix4 b u h d : S8x1x8x64.Idx)
      = Ideal.div ((w (ix3 b h d) : EReal) + x (ix3 b h d)) ((y (ix2 b h) : EReal) + z (ix2 b h)) := by
  pointwise [k0_pay10, k0_pay8, k0_pay9]

end Payloads

variable (m : (ℓ : Loc nD τ sig) → Buf (Elt Ideal) ℓ)

/-! ## The blocks of a grid point in their arrays -/

/-- A device's query, key and value arrays. -/
abbrev qArr (c : Dev nD) : FVec Ideal S8x1x8x64 .f32 := m ((c : Thread nD τ).loc main_arg0)
abbrev kArr (c : Dev nD) : FVec Ideal S8x512x8x64 .f32 := m ((c : Thread nD τ).loc main_arg1)
abbrev vArr (c : Dev nD) : FVec Ideal S8x512x8x64 .f32 := m ((c : Thread nD τ).loc main_arg2)

theorem index_eq : ∀ t : Fin cfg0.N, win0_0.index t = ![0, 0, 0, 0] ∧ win0_1.index t = ![0, t.val, 0, 0]
    ∧ win0_2.index t = ![0, t.val, 0, 0] ∧ win0_3.index t = ![0, 0, 0, 0] :=
  (by decide +kernel : ∀ t : Fin grid0.N, _)

/-- Row `r` of chunk `j`, of eight chunks of 64 rows. -/
def row (j : Fin 8) (r : Fin 64) : Fin 512 := ⟨j.val * 64 + r.val, by omega⟩

theorem pt_of (j : Fin 8) : (pt j.val).val = j.val := Nat.mod_eq_of_lt j.isLt

theorem qAt_at (c : Dev nD) (t : Fin cfg0.N) (b h : Fin 8) (x : Fin 64) :
    qAt m c t (ix4 b 0 h x : S8x1x8x64.Idx) = qArr m c (ix4 b 0 h x) := by
  unfold qAt
  blk_ext [iblk, V, index_eq t]

theorem kAt_at (c : Dev nD) (j : Fin 8) (b h : Fin 8) (r x : Fin 64) :
    kAt m c (pt j.val) (ix4 b r h x : S8x64x8x64.Idx) = kArr m c (ix4 b (row j r) h x) := by
  unfold kAt row
  blk_ext [iblk, V, index_eq (pt j.val), pt_of j]

theorem vAt_at (c : Dev nD) (j : Fin 8) (b h : Fin 8) (r x : Fin 64) :
    vAt m c (pt j.val) (ix4 b r h x : S8x64x8x64.Idx) = vArr m c (ix4 b (row j r) h x) := by
  unfold vAt row
  blk_ext [iblk, V, index_eq (pt j.val), pt_of j]

/-! ## The running sums -/

/-- The weight a device gives its row `r`. -/
def weight (c : Dev nD) (b h : Fin 8) (r : Fin 512) : EReal :=
  Ideal.exp ((∑ x : Fin 64, qArr m c (ix4 b 0 h x) * kArr m c (ix4 b r h x)) * Ideal.ofBits .f32 0x3E000000#32)

theorem weight_eq (c : Dev nD) (j b h : Fin 8) (r : Fin 64) :
    k0_pay1 (qAt m c (pt j.val)) (kAt m c (pt j.val)) (ix3 b r h : S8x64x8.Idx) = weight m c b h (row j r) := by
  rw [weight_at]
  simp only [qAt_at, kAt_at]
  rfl

theorem accL_sum (c : Dev nD) (b h : Fin 8) : ∀ n : ℕ, accL m c n (ix2 b h : S8x8.Idx)
    = (∑ j ∈ Finset.range (n + 1), k0_pay2 (qAt m c (pt j)) (kAt m c (pt j)) (ix2 b h : S8x8.Idx) : EReal)
  | 0 => by rw [Finset.sum_range_one]; exact firstL_at _ _ b h
  | n + 1 => by
    rw [Finset.sum_range_succ, ← accL_sum c b h n]
    exact nextL_at _ _ b h _

theorem accO_sum (c : Dev nD) (b h : Fin 8) (d : Fin 64) : ∀ n : ℕ, accO m c n (ix3 b h d : S8x8x64.Idx)
    = (∑ j ∈ Finset.range (n + 1), k0_pay3 (qAt m c (pt j)) (kAt m c (pt j)) (vAt m c (pt j)) (ix3 b h d : S8x8x64.Idx) : EReal)
  | 0 => by rw [Finset.sum_range_one]; exact firstO_at _ _ _ b h d
  | n + 1 => by
    rw [Finset.sum_range_succ, ← accO_sum c b h d n]
    exact nextO_at _ _ _ b h d _

/-- After the last point: the sum of the weights of all the device's rows, -/
theorem accL_last (c : Dev nD) (b h : Fin 8) : accL m c 7 (ix2 b h : S8x8.Idx) = (∑ r : Fin 512, weight m c b h r : EReal) := by
  rw [accL_sum, Finset.sum_range, Fin.sum_univ_tiles 8 64 rfl]
  refine Finset.sum_congr rfl fun j _ => ?_
  rw [sumL_at]
  exact Finset.sum_congr rfl fun r _ => weight_eq m c j b h r

/-- and the weighted sum of its value rows. -/
theorem accO_last (c : Dev nD) (b h : Fin 8) (d : Fin 64) :
    accO m c 7 (ix3 b h d : S8x8x64.Idx) = (∑ r : Fin 512, weight m c b h r * vArr m c (ix4 b r h d) : EReal) := by
  rw [accO_sum, Finset.sum_range, Fin.sum_univ_tiles 8 64 rfl]
  refine Finset.sum_congr rfl fun j _ => ?_
  rw [sumO_at]
  exact Finset.sum_congr rfl fun r _ => by rw [weight_eq, vAt_at]; rfl

theorem result_at (c : Dev nD) (b h : Fin 8) (u : Fin 1) (d : Fin 64) :
    result m c (ix4 b u h d : S8x1x8x64.Idx)
      = Ideal.div ((∑ r : Fin 512, weight m c b h r * vArr m c (ix4 b r h d))
            + ∑ r : Fin 512, weight m (partner c) b h r * vArr m (partner c) (ix4 b r h d))
          ((∑ r : Fin 512, weight m c b h r) + ∑ r : Fin 512, weight m (partner c) b h r) := by
  unfold result
  rw [quotient_at, accO_last, accO_last, accL_last, accL_last]

/-! ## The array after the run -/

/-- The last grid point writes the whole array back. -/
theorem final (c : Dev nD) : (dats m 0 c).arrAt 3 cfg0.N = result m c := by
  refine (dats m 0 c).arrAt_eq_of_covers 3 _ (by decide +kernel) fun t _ y => ?_
  blk_simp
  show result m c _ = result m c _
  blk_ext [index_eq t]

end Cert.KernelIdealExchange

end
-- ==== Proof.Softmax.lean ====
/-
# Softmax without subtracting the maximum

Over the extended reals, for scores that are real numbers and values that are anything at all: the quotient
of the two sums `∑ exp (s k) * v k` and `∑ exp (s k)` is the sum of the values weighted by
`exp (s k - M) / ∑ exp (s j - M)`, whatever real number `M` is subtracted; and the maximum of the scores is one.
-/
module

public import Idealize.ShloMosaic.Lib.Pointwise
public import Idealize.ShloMosaic.Lib.IdealHost

@[expose] public section

noncomputable section

namespace Cert.Softmax

open Idealize.ShloMosaic

/-- An extended real that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

/-- A sum of real numbers is the same sum taken among the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem IsReal.sum {ι : Type} [Fintype ι] {f : ι → EReal} (h : ∀ k, IsReal (f k)) : IsReal (∑ k, f k) := by
  choose g hg using h
  exact ⟨∑ k, g k, by rw [coe_sum]; exact Finset.sum_congr rfl fun k _ => hg k⟩

/-- A real factor that is not negative goes into a sum of any extended reals. -/
theorem sum_mul_coe {ι : Type} (S : Finset ι) (f : ι → EReal) {r : ℝ} (hr : 0 ≤ r) :
    (∑ k ∈ S, f k) * (r : EReal) = ∑ k ∈ S, f k * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- The maximum of real numbers, at least one of them, is a real number. -/
theorem isReal_fold_max {n : ℕ} (s : Fin (n + 1) → EReal) (h : ∀ k, IsReal (s k)) : IsReal (Finset.univ.fold max ⊥ s) := by
  have hb : ⊥ < Finset.univ.fold max ⊥ s := by
    rw [Finset.lt_fold_max]
    obtain ⟨r, hr⟩ := h 0
    exact .inr ⟨0, Finset.mem_univ _, by rw [hr]; exact EReal.bot_lt_coe r⟩
  have ht : Finset.univ.fold max ⊥ s < ⊤ := by
    rw [Finset.fold_max_lt]
    refine ⟨bot_lt_top, fun k _ => ?_⟩
    obtain ⟨r, hr⟩ := h k
    rw [hr]; exact EReal.coe_lt_top r
  exact ⟨_, (EReal.coe_toReal ht.ne hb.ne').symm⟩

/-- The statement at the top of this file. -/
theorem quotient_eq {n : ℕ} (s v : Fin (n + 1) → EReal) (M : EReal) (hs : ∀ k, IsReal (s k)) (hM : IsReal M) :
    Ideal.div (∑ k, Ideal.exp (s k) * v k) (∑ k, Ideal.exp (s k))
      = ∑ k, v k * Ideal.div (Ideal.exp (s k - M)) (∑ j, Ideal.exp (s j - M)) := by
  choose σ hσ using hs
  obtain ⟨μ, rfl⟩ := hM
  obtain rfl : s = fun k => (σ k : EReal) := funext hσ
  have hL : 0 < ∑ k, Real.exp (σ k) := Finset.sum_pos (fun k _ => Real.exp_pos _) ⟨0, Finset.mem_univ _⟩
  have hL' : 0 < ∑ k, Real.exp (σ k - μ) := Finset.sum_pos (fun k _ => Real.exp_pos _) ⟨0, Finset.mem_univ _⟩
  have hsum : ∑ k, Real.exp (σ k - μ) = (∑ k, Real.exp (σ k)) * Real.exp (-μ) := by
    rw [Finset.sum_mul]
    exact Finset.sum_congr rfl fun k _ => by rw [← Real.exp_add, sub_eq_add_neg]
  simp only [← EReal.coe_sub, Ideal.exp_coe, ← coe_sum]
  rw [Ideal.div_coe hL.ne', sum_mul_coe _ _ (by positivity)]
  refine Finset.sum_congr rfl fun k _ => ?_
  rw [Ideal.div_coe hL'.ne', ← EReal.coe_mul, mul_comm _ (v k), mul_assoc, ← EReal.coe_mul]
  congr 2
  rw [hsum, sub_eq_add_neg, Real.exp_add]
  have := Real.exp_pos (-μ)
  field_simp

end Cert.Softmax

end
-- ==== Proof.ReferenceValue.lean ====
/-
# What the reference computes, entry by entry

The reference's result as a function `reference` of the whole arrays, and its entry at batch `b`, head `h`, column `d`:
softmax of the scaled scores against all 1024 rows, applied to the value rows.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Softmax

open Cert.ReferenceIdeal Cert.ReferenceIdeal.Gen
open Idealize.ShloMosaic Idealize.ShloMosaic.TcCoe

variable (Q : FVec Ideal S8x1x8x64 .f32) (K V : FVec Ideal S8x1024x8x64 .f32)

/-- The scaled scores, -/
def scores : FVec Ideal S8x8x1x1024 .f32 :=
  mulf (Host.dotGeneral dot_S8x1x8x64_S8x1024x8x64_S8x8x1x1024_3_3_1_1_02_02 none Q K)
    (broadcastInDim S8x8x1x1024 ![] bcast_S_S8x8x1x1024 (constant S_ .f32 0x3E000000#32))
/-- the exponentials of the scores less their maximum, -/
def weights : FVec Ideal S8x8x1x1024 .f32 :=
  Host.exp (subf (scores Q K) (broadcastInDim S8x8x1x1024 ![0, 1, 2, 3] bcast_S8x8x1x1_S8x8x1x1024_0_1_2_3
    (broadcastInDim S8x8x1x1 ![0, 1, 2] bcast_S8x8x1_S8x8x1x1_0_1_2
      (Host.reduce FloatOps.maximumf (scores Q K) (constant S_ .f32 0xFF800000#32) reducesTo_S8x8x1x1024_S8x8x1_d3 h_S_))))
/-- and the reference's result. -/
def reference : FVec Ideal S8x1x8x64 .f32 :=
  transpose S8x1x8x64 [0, 3, 1, 2] (Host.dotGeneral dot_S8x1024x8x64_S8x8x1x1024_S8x8x64x1_1_3_3_2_02_01 none V
    (Host.divf (weights Q K) (broadcastInDim S8x8x1x1024 ![0, 1, 2, 3] bcast_S8x8x1x1_S8x8x1x1024_0_1_2_3
      (broadcastInDim S8x8x1x1 ![0, 1, 2] bcast_S8x8x1_S8x8x1x1_0_1_2
        (Host.reduceAdd (weights Q K) (constant S_ .f32 0x00000000#32) reducesTo_S8x8x1x1024_S8x8x1_d3 h_S_)))))
    transposes_S8x8x64x1_S8x1x8x64_0_3_1_2

/-- The scale, one eighth. -/
abbrev scale : EReal := Ideal.ofBits .f32 0x3E000000#32

theorem isReal_scale : IsReal scale := ⟨_, by simp [scale, Ideal.ofBits, Ideal.ieee]; rfl⟩
theorem negInf : Ideal.ofBits .f32 0xFF800000#32 = ⊥ := by simp [Ideal.ofBits, Ideal.ieee]
theorem posInf : Ideal.ofBits .f32 0x7F800000#32 = ⊤ := by simp [Ideal.ofBits, Ideal.ieee]

/-- The scaled score of row `r`. -/
def score (b h : Fin 8) (r : Fin 1024) : EReal := (∑ x : Fin 64, Q (ix4 b 0 h x) * K (ix4 b r h x)) * scale

theorem scores_at (b h : Fin 8) (u : Fin 1) (r : Fin 1024) : scores Q K (ix4 b h u r : S8x8x1x1024.Idx) = score Q K b h r := by
  obtain rfl : u = 0 := Subsingleton.elim _ _
  pointwise [scores]
  rfl

theorem weights_at (b h : Fin 8) (u : Fin 1) (r : Fin 1024) :
    weights Q K (ix4 b h u r : S8x8x1x1024.Idx) = Ideal.exp (score Q K b h r - Finset.univ.fold max ⊥ (score Q K b h)) := by
  pointwise [weights]
  simp only [scores_at, negInf]

theorem reference_at (b h : Fin 8) (u : Fin 1) (d : Fin 64) :
    reference Q K V (ix4 b u h d : S8x1x8x64.Idx)
      = ∑ r : Fin 1024, V (ix4 b r h d) * Ideal.div (Ideal.exp (score Q K b h r - Finset.univ.fold max ⊥ (score Q K b h)))
          (∑ k : Fin 1024, Ideal.exp (score Q K b h k - Finset.univ.fold max ⊥ (score Q K b h))) := by
  pointwise [reference]
  simp only [weights_at]

/-- For real queries and keys the entry is a quotient of two sums over the rows. -/
theorem reference_quotient (hQ : ∀ i, IsReal (Q i)) (hK : ∀ i, IsReal (K i)) (b h : Fin 8) (u : Fin 1) (d : Fin 64) :
    reference Q K V (ix4 b u h d : S8x1x8x64.Idx)
      = Ideal.div (∑ r : Fin 1024, Ideal.exp (score Q K b h r) * V (ix4 b r h d)) (∑ r : Fin 1024, Ideal.exp (score Q K b h r)) := by
  have hs : ∀ r, IsReal (score Q K b h r) := fun r => (IsReal.sum fun x => (hQ _).mul (hK _)).mul isReal_scale
  rw [reference_at]
  exact (quotient_eq (n := 1023) (score Q K b h) (fun r => V (ix4 b r h d)) _ hs (isReal_fold_max (n := 1023) _ hs)).symm

end Cert.Softmax

end
-- ==== Proof.Algebraic.lean ====
/-
# The kernel's result is the reference's

Device `c` holds half `half c` of the key and value rows and its partner the other half, so the sums over both
devices' rows are the sums over all rows (`result_eq`). The precondition says that queries and keys are real.
-/
module

public import proofs.«01_k».proof.Proof.KernelIdealLaunch
public import proofs.«01_k».proof.Proof.KernelIdealValue
public import proofs.«01_k».proof.Proof.ReferenceValue
public import proofs.«01_k».proof.Proof.Gen.Pre_finite_KernelIdeal
public import proofs.«01_k».proof.Defs

@[expose] public section

set_option maxRecDepth 16384

noncomputable section

namespace Cert.Exchange

open Idealize.ShloMosaic Idealize.ShloMosaic.TcCoe Idealize.SL.Sem
open Cert.Softmax Cert.KernelIdealExchange
open Cert.KernelIdeal (nD S8x1x8x64 S8x512x8x64)

/-! ## The precondition -/

theorem isReal_of_lt {x : EReal} (h : BitVec.ofBool (decide (max x (-x) < Ideal.ofBits .f32 0x7F800000#32)) = 1#1) : IsReal x := by
  have h' : max x (-x) < ⊤ := by
    rw [posInf] at h
    by_contra hc
    rw [decide_eq_false hc] at h
    exact absurd h (by decide)
  have h1 : x ≠ ⊤ := ((le_max_left _ _).trans_lt h').ne
  have h2 : x ≠ ⊥ := fun hb => by
    have := (le_max_right x (-x)).trans_lt h'
    rw [hb, EReal.neg_bot] at this
    exact this.ne rfl
  exact ⟨_, (EReal.coe_toReal h1 h2).symm⟩

section Finite

variable (q : FVec Ideal S8x1x8x64 .f32) (k v : FVec Ideal S8x512x8x64 .f32)

theorem isReal_q (h : (Cert.Pre_finite_KernelIdeal.fn (F := Ideal) q k v).1 = fun _ => 1#1) (i : S8x1x8x64.Idx) : IsReal (q i) := by
  have h' := congrFun h i
  pointwise [Cert.Pre_finite_KernelIdeal.fn] at h'
  exact isReal_of_lt h'

theorem isReal_k (h : (Cert.Pre_finite_KernelIdeal.fn (F := Ideal) q k v).2 = fun _ => 1#1) (i : S8x512x8x64.Idx) : IsReal (k i) := by
  have h' := congrFun h i
  pointwise [Cert.Pre_finite_KernelIdeal.fn] at h'
  exact isReal_of_lt h'

end Finite

/-! ## Which rows a device holds -/

abbrev Whole : Shape := ⟨4, ![8, 1024, 8, 64]⟩

/-- Row `r` of the half device `c` holds, among all the rows. -/
def wholeRow (c : Dev nD) (r : Fin 512) : Fin 1024 := ⟨512 * ((c.val / 4) % 2) + r.val, by omega⟩

/-- What device `c` holds of an array of rows. -/
abbrev part (c : Dev nD) (X : FVec Ideal Whole .f32) : FVec Ideal S8x512x8x64 .f32 :=
  Layout.blockN ⟨4, ![8, 512, 8, 64]⟩ ⟨4, ![8, 1024, 8, 64]⟩ (Layout.meshBlock [2, 2, 4] ![[], [1], [], []] c) X

theorem part_at (c : Dev nD) (X : FVec Ideal Whole .f32) (b h : Fin 8) (r : Fin 512) (x : Fin 64) :
    part c X (ix4 b r h x) = X (ix4 b (wholeRow c r) h x) := by
  unfold part
  rw [Layout.blockN_apply]
  refine congrArg X (funext fun a => Fin.ext ?_)
  rw [Layout.TilesN.idx_val]
  match a with
  | ⟨0, _⟩ => show 0 * 8 + b.val = b.val; omega
  | ⟨1, _⟩ => show (c.val / 4 % 2 * 1 + 0) * 512 + r.val = 512 * (c.val / 4 % 2) + r.val; omega
  | ⟨2, _⟩ => show 0 * 8 + h.val = h.val; omega
  | ⟨3, _⟩ => show 0 * 64 + x.val = x.val; omega

/-- A sum over a device's half and its partner's half is the sum over all rows. -/
theorem sum_halves (c : Dev nD) (f : Fin 1024 → EReal) :
    (∑ r : Fin 512, f (wholeRow c r)) + ∑ r : Fin 512, f (wholeRow (partner c) r) = ∑ r : Fin 1024, f r := by
  rw [Fin.sum_univ_two_halves 512 512 rfl f]
  have hp : (partner c).val = (8 * (c.val / 8) + (c.val % 4) + 4) - 4 * ((c.val / 4) % 2) := rfl
  have hc : c.val < 16 := c.isLt
  rcases Nat.mod_two_eq_zero_or_one (c.val / 4) with hy | hy
  · have hy' : (partner c).val / 4 % 2 = 1 := by omega
    refine congrArg₂ (· + ·) (Finset.sum_congr rfl fun r _ => congrArg f (Fin.ext ?_)) (Finset.sum_congr rfl fun r _ => congrArg f (Fin.ext ?_))
    · show 512 * (c.val / 4 % 2) + r.val = r.val; omega
    · show 512 * ((partner c).val / 4 % 2) + r.val = 512 + r.val; omega
  · have hy' : (partner c).val / 4 % 2 = 0 := by omega
    rw [add_comm]
    refine congrArg₂ (· + ·) (Finset.sum_congr rfl fun r _ => congrArg f (Fin.ext ?_)) (Finset.sum_congr rfl fun r _ => congrArg f (Fin.ext ?_))
    · show 512 * ((partner c).val / 4 % 2) + r.val = r.val; omega
    · show 512 * (c.val / 4 % 2) + r.val = 512 + r.val; omega

/-! ## The two results -/

section Results

variable (m : (ℓ : Loc nD Cert.KernelIdeal.τ Cert.KernelIdeal.sig) → Buf (Elt Ideal) ℓ)
variable (Q : FVec Ideal S8x1x8x64 .f32) (K V : FVec Ideal Whole .f32)

theorem weight_whole (hq : ∀ c, qArr m c = Q) (hk : ∀ c, kArr m c = part c K) (c : Dev nD) (b h : Fin 8) (r : Fin 512) :
    weight m c b h r = Ideal.exp (score Q K b h (wholeRow c r)) := by
  unfold weight score
  rw [hq, hk]
  simp only [part_at]

theorem result_eq (hq : ∀ c, qArr m c = Q) (hk : ∀ c, kArr m c = part c K) (hv : ∀ c, vArr m c = part c V)
    (hQ : ∀ i, IsReal (Q i)) (hK : ∀ i, IsReal (K i)) (c : Dev nD) : result m c = reference Q K V := by
  funext i
  idx_vars i
  rw [result_at]
  refine Eq.trans ?_ (reference_quotient Q K V hQ hK _ _ _ _).symm
  simp only [weight_whole m Q K hq hk, hv, part_at]
  rw [sum_halves c fun r => Ideal.exp (score Q K i0 i2 r) * V (ix4 i0 r i2 i3), sum_halves c fun r => Ideal.exp (score Q K i0 i2 r)]

/-- Every key row is on some device, so finite blocks make a finite array. -/
theorem isReal_whole (hk : ∀ c, kArr m c = part c K) (h : ∀ c i, IsReal (kArr m c i)) (i : Whole.Idx) : IsReal (K i) := by
  idx_vars i
  have h' := h ⟨4 * (i1.val / 512), by show _ < 16; omega⟩ (ix4 i0 ⟨i1.val % 512, by omega⟩ i2 i3)
  rw [hk, part_at] at h'
  have e : wholeRow ⟨4 * (i1.val / 512), by show _ < 16; omega⟩ ⟨i1.val % 512, by omega⟩ = i1 :=
    Fin.ext (by show 512 * (4 * (i1.val / 512) / 4 % 2) + i1.val % 512 = i1.val; omega)
  rw [e] at h'
  exact h'

end Results

/-- At the ideal values kernel and reference compute the same array. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hagree
  have hq := fun c => (hagree c).1
  have hk := fun c => (hagree c).2.1
  have hv := fun c => (hagree c).2.2
  have hQ := fun i => (congrArg (fun X : FVec Ideal S8x1x8x64 .f32 => IsReal (X i)) (hq 0)).mp (isReal_q _ _ _ (hpre 0).1 i)
  have hK := isReal_whole m _ hk fun c => isReal_k _ _ _ (hpre c).2
  refine ⟨_, (θ_run Cert.KernelIdeal.defs _ _).mono (fun r h c => ⟨?_,
      (h.1 c 0).trans ((dats m 0 c).arrAt_in 0 rfl _), (h.1 c 1).trans ((dats m 0 c).arrAt_in 1 rfl _),
      (h.1 c 2).trans ((dats m 0 c).arrAt_in 2 rfl _)⟩) (run_main m g),
    (θ_run Cert.ReferenceIdeal.defs _ _).mono (fun r h => h 0) (Cert.ReferenceIdeal.Value.run m' g')⟩
  exact (h.1 c 3).trans ((final m c).trans (result_eq m _ _ _ hq hk hv hQ hK c))

end Cert.Exchange

end
-- ==== Proof.lean ====
/-
# The certificate

Puts the claims together: the kernel's run, as printed and at the ideal values, comes from `KernelLaunch` and
`KernelIdealLaunch`; the equation with the reference from `Algebraic`.
-/
module

public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelLaunch
public import proofs.«01_k».proof.Proof.KernelIdealLaunch
public import proofs.«01_k».proof.Proof.Algebraic
public import Idealize.ShloMosaic.Adequacy
public import Idealize.ShloMosaic.Init

@[expose] public section

noncomputable section

namespace Cert.Proof

open Idealize.ShloMosaic Idealize.SL.Sem

/-- The kernel, as printed, leaves its arguments unchanged and its semaphores at zero. -/
theorem kernel_frame : Cert.quiescent_Kernel (hKernel := Cert.Kernel.Gen.facts) := fun m g _ =>
  (θ_run Cert.Kernel.defs _ _).mono (fun _ h => ⟨fun c =>
      ⟨(h.1 c 0).trans ((Cert.KernelExchange.dats m 0 c).arrAt_in 0 rfl _), (h.1 c 1).trans ((Cert.KernelExchange.dats m 0 c).arrAt_in 1 rfl _),
        (h.1 c 2).trans ((Cert.KernelExchange.dats m 0 c).arrAt_in 2 rfl _)⟩, h.2⟩)
    (Cert.KernelExchange.run_main m g)

/-- So does the kernel at the ideal values. -/
theorem kernelIdeal_frame : Cert.quiescent_KernelIdeal (hKernelIdeal := Cert.KernelIdeal.Gen.facts) := fun m g _ =>
  (θ_run Cert.KernelIdeal.defs _ _).mono (fun _ h => ⟨fun c =>
      ⟨(h.1 c 0).trans ((Cert.KernelIdealExchange.dats m 0 c).arrAt_in 0 rfl _), (h.1 c 1).trans ((Cert.KernelIdealExchange.dats m 0 c).arrAt_in 1 rfl _),
        (h.1 c 2).trans ((Cert.KernelIdealExchange.dats m 0 c).arrAt_in 2 rfl _)⟩, h.2⟩)
    (Cert.KernelIdealExchange.run_main m g)

/-- The reference has no semaphore at all. -/
theorem referenceIdeal_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- Every claim of the certificate. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    kernel_frame, kernelIdeal_frame, fun m g _ => kernelIdeal_frame m g trivial, referenceIdeal_frame, fun m g _ => referenceIdeal_frame m g trivial,
    trivial, Cert.Exchange.algebraic⟩

end Cert.Proof

end
